-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_c" .f32 0x3C2AAAAB#32 ((1 / 96 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x96x384x384 : Shape := ⟨4, ![8, 96, 384, 384]⟩
abbrev S64x24 : Shape := ⟨2, ![64, 24]⟩
abbrev S64 : Shape := ⟨1, ![64]⟩
abbrev S_ : Shape := ⟨0, ![]⟩

class Facts : Prop where
  bcast_S_S8x96x384x384 : S_.BroadcastsInDim S8x96x384x384 (![] : Fin 0 → Fin S8x96x384x384.rank)

variable [Facts]

def fn {F : FTy → Type} [FloatOps F] (main_arg0 : FVec F S8x96x384x384 .f32) (main_arg1 : FVec F S64x24 .f32) (main_arg2 : FVec F S64 .f32) : IVec S8x96x384x384 1 :=
  let main_v0 : FVec F S8x96x384x384 .f32 := Host.absf main_arg0
  let main_cst : FVec F S_ .f32 := constant S_ .f32 0x7F800000#32
  let main_v1 : FVec F S8x96x384x384 .f32 := broadcastInDim S8x96x384x384 ![] bcast_S_S8x96x384x384 main_cst
  let main_v2 : IVec S8x96x384x384 1 := cmpf .olt main_v0 main_v1
  main_v2
-- ==== Kernel.lean ====
abbrev S8x96x384x384 : Shape := ⟨4, ![8, 96, 384, 384]⟩
abbrev S64x24 : Shape := ⟨2, ![64, 24]⟩
abbrev S64 : Shape := ⟨1, ![64]⟩
abbrev S384 : Shape := ⟨1, ![384]⟩
abbrev S_ : Shape := ⟨0, ![]⟩
abbrev S256 : Shape := ⟨1, ![256]⟩
abbrev S384x1 : Shape := ⟨2, ![384, 1]⟩
abbrev S1x256 : Shape := ⟨2, ![1, 256]⟩
abbrev S384x256 : Shape := ⟨2, ![384, 256]⟩
abbrev S192 : Shape := ⟨1, ![192]⟩
abbrev S192x1 : Shape := ⟨2, ![192, 1]⟩
abbrev S1x192 : Shape := ⟨2, ![1, 192]⟩
abbrev S192x192 : Shape := ⟨2, ![192, 192]⟩
abbrev S384x512 : Shape := ⟨2, ![384, 512]⟩
abbrev S8x384x256 : Shape := ⟨3, ![8, 384, 256]⟩
abbrev S1x8x384x384 : Shape := ⟨4, ![1, 8, 384, 384]⟩
abbrev S1x384x256 : Shape := ⟨3, ![1, 384, 256]⟩
abbrev S1x1x384x384 : Shape := ⟨4, ![1, 1, 384, 384]⟩
abbrev S384x384 : Shape := ⟨2, ![384, 384]⟩
abbrev S192x256 : Shape := ⟨2, ![192, 256]⟩
abbrev S192x2048 : Shape := ⟨2, ![192, 2048]⟩
abbrev S383 : Shape := ⟨1, ![383]⟩
abbrev S1 : Shape := ⟨1, ![1]⟩
abbrev S193 : Shape := ⟨1, ![193]⟩
abbrev S384x193 : Shape := ⟨2, ![384, 193]⟩
abbrev S1x98304 : Shape := ⟨2, ![1, 98304]⟩
abbrev S8x98304 : Shape := ⟨2, ![8, 98304]⟩
abbrev S24x64 : Shape := ⟨2, ![24, 64]⟩
abbrev S1x64 : Shape := ⟨2, ![1, 64]⟩
abbrev S8x64 : Shape := ⟨2, ![8, 64]⟩
abbrev S8 : Shape := ⟨1, ![8]⟩
abbrev S8x1 : Shape := ⟨2, ![8, 1]⟩
abbrev S8x24 : Shape := ⟨2, ![8, 24]⟩
abbrev S8x16 : Shape := ⟨2, ![8, 16]⟩
abbrev S8x8 : Shape := ⟨2, ![8, 8]⟩

abbrev nBuf : Space → Nat
  | .hbm => 238
  | .vmem => 17
  | .smem => 0
  | _ => 0

abbrev hbmTy0_0 (i : Nat) : BufTy := match i % 128 with
  | 0 => ⟨S8x96x384x384, .f32⟩
  | 1 => ⟨S64x24, .f32⟩
  | 2 => ⟨S64, .f32⟩
  | 3 => ⟨S384, .i32⟩
  | 4 => ⟨S_, .f32⟩
  | 5 => ⟨S_, .f32⟩
  | 6 => ⟨S_, .f32⟩
  | 7 => ⟨S_, .f32⟩
  | 8 => ⟨S_, .f32⟩
  | 9 => ⟨S256, .i32⟩
  | 10 => ⟨S384x1, .i32⟩
  | 11 => ⟨S1x256, .i32⟩
  | 12 => ⟨S384x256, .i32⟩
  | 13 => ⟨S384x256, .i32⟩
  | 14 => ⟨S384x256, .i32⟩
  | 15 => ⟨S_, .i32⟩
  | 16 => ⟨S384x256, .i32⟩
  | 17 => ⟨S384x256, .i32⟩
  | 18 => ⟨S384x256, .f32⟩
  | 19 => ⟨S384x256, .f32⟩
  | 20 => ⟨S384x256, .f32⟩
  | 21 => ⟨S_, .f32⟩
  | 22 => ⟨S384x256, .f32⟩
  | 23 => ⟨S384x256, .f32⟩
  | 24 => ⟨S384x256, .f32⟩
  | 25 => ⟨S_, .f32⟩
  | 26 => ⟨S384x256, .f32⟩
  | 27 => ⟨S384x256, .f32⟩
  | 28 => ⟨S384x256, .f32⟩
  | 29 => ⟨S_, .f32⟩
  | 30 => ⟨S384x256, .f32⟩
  | 31 => ⟨S384x256, .f32⟩
  | 32 => ⟨S1x256, .i32⟩
  | 33 => ⟨S_, .i32⟩
  | 34 => ⟨S1x256, .i32⟩
  | 35 => ⟨S1x256, .i1⟩
  | 36 => ⟨S_, .f32⟩
  | 37 => ⟨S_, .f32⟩
  | 38 => ⟨S384x256, .i1⟩
  | 39 => ⟨S384x256, .f32⟩
  | 40 => ⟨S384x256, .f32⟩
  | 41 => ⟨S1x256, .i32⟩
  | 42 => ⟨S_, .i32⟩
  | 43 => ⟨S1x256, .i32⟩
  | 44 => ⟨S1x256, .i1⟩
  | 45 => ⟨S_, .f32⟩
  | 46 => ⟨S_, .f32⟩
  | 47 => ⟨S384x256, .i1⟩
  | 48 => ⟨S384x256, .f32⟩
  | 49 => ⟨S384x256, .f32⟩
  | 50 => ⟨S192, .i32⟩
  | 51 => ⟨S192x1, .i32⟩
  | 52 => ⟨S1x192, .i32⟩
  | 53 => ⟨S192x192, .i32⟩
  | 54 => ⟨S192x192, .i32⟩
  | 55 => ⟨S192x192, .i32⟩
  | 56 => ⟨S_, .i32⟩
  | 57 => ⟨S192x192, .i32⟩
  | 58 => ⟨S192x192, .i32⟩
  | 59 => ⟨S192x192, .f32⟩
  | 60 => ⟨S192x192, .f32⟩
  | 61 => ⟨S192x192, .f32⟩
  | 62 => ⟨S_, .f32⟩
  | 63 => ⟨S192x192, .f32⟩
  | 64 => ⟨S192x192, .f32⟩
  | 65 => ⟨S192x192, .f32⟩
  | 66 => ⟨S192x192, .f32⟩
  | 67 => ⟨S192, .f32⟩
  | 68 => ⟨S192, .f32⟩
  | 69 => ⟨S192, .f32⟩
  | 70 => ⟨S_, .f32⟩
  | 71 => ⟨S192, .f32⟩
  | 72 => ⟨S192, .f32⟩
  | 73 => ⟨S192, .f32⟩
  | 74 => ⟨S1x192, .f32⟩
  | 75 => ⟨S192, .f32⟩
  | 76 => ⟨S1x192, .f32⟩
  | 77 => ⟨S192x192, .f32⟩
  | 78 => ⟨S192x192, .f32⟩
  | 79 => ⟨S192x192, .f32⟩
  | 80 => ⟨S192x192, .f32⟩
  | 81 => ⟨S192x192, .f32⟩
  | 82 => ⟨S192x192, .f32⟩
  | 83 => ⟨S192x192, .f32⟩
  | 84 => ⟨S192x192, .f32⟩
  | 85 => ⟨S192x192, .f32⟩
  | 86 => ⟨S192x192, .f32⟩
  | 87 => ⟨S192x192, .f32⟩
  | 88 => ⟨S192x192, .f32⟩
  | 89 => ⟨S384x256, .bf16⟩
  | 90 => ⟨S384x256, .bf16⟩
  | 91 => ⟨S384x512, .bf16⟩
  | 92 => ⟨S192x192, .bf16⟩
  | 93 => ⟨S192x192, .bf16⟩
  | 94 => ⟨S192x192, .bf16⟩
  | 95 => ⟨S192x192, .bf16⟩
  | 96 => ⟨S192x192, .bf16⟩
  | 97 => ⟨S192x192, .bf16⟩
  | 98 => ⟨S8x384x256, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S383, .f32⟩
  | 107 => ⟨S_, .f32⟩
  | 108 => ⟨S383, .f32⟩
  | 109 => ⟨S383, .f32⟩
  | 110 => ⟨S1, .f32⟩
  | 111 => ⟨S_, .f32⟩
  | 112 => ⟨S383, .f32⟩
  | 113 => ⟨S383, .f32⟩
  | 114 => ⟨S383, .f32⟩
  | 115 => ⟨S383, .f32⟩
  | 116 => ⟨S1, .f32⟩
  | 117 => ⟨S383, .f32⟩
  | 118 => ⟨S383, .f32⟩
  | 119 => ⟨S383, .f32⟩
  | 120 => ⟨S1, .f32⟩
  | 121 => ⟨S384, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x96x384x384, .f32⟩

abbrev hbmTy0_1 (i : Nat) : BufTy := match i % 128 with
  | 0 => ⟨S_, .f32⟩
  | 1 => ⟨S192, .f32⟩
  | 2 => ⟨S_, .f32⟩
  | 3 => ⟨S192, .f32⟩
  | 4 => ⟨S192, .f32⟩
  | 5 => ⟨S1, .f32⟩
  | 6 => ⟨S_, .f32⟩
  | 7 => ⟨S192, .f32⟩
  | 8 => ⟨S192, .f32⟩
  | 9 => ⟨S192, .f32⟩
  | 10 => ⟨S192, .f32⟩
  | 11 => ⟨S1, .f32⟩
  | 12 => ⟨S192, .f32⟩
  | 13 => ⟨S192, .f32⟩
  | 14 => ⟨S192, .f32⟩
  | 15 => ⟨S1, .f32⟩
  | 16 => ⟨S193, .f32⟩
  | 17 => ⟨S384x193, .f32⟩
  | 18 => ⟨S384x193, .f32⟩
  | 19 => ⟨S384x193, .f32⟩
  | 20 => ⟨S384x193, .f32⟩
  | 21 => ⟨S384x193, .f32⟩
  | 22 => ⟨S384x193, .f32⟩
  | 23 => ⟨S_, .f32⟩
  | 24 => ⟨S_, .f32⟩
  | 25 => ⟨S_, .f32⟩
  | 26 => ⟨S384x193, .f32⟩
  | 27 => ⟨S384x193, .f32⟩
  | 28 => ⟨S_, .f32⟩
  | 29 => ⟨S384x193, .f32⟩
  | 30 => ⟨S384x193, .f32⟩
  | 31 => ⟨S_, .f32⟩
  | 32 => ⟨S384x193, .f32⟩
  | 33 => ⟨S384x193, .f32⟩
  | 34 => ⟨S384x193, .f32⟩
  | 35 => ⟨S_, .f32⟩
  | 36 => ⟨S384x193, .f32⟩
  | 37 => ⟨S384x193, .f32⟩
  | 38 => ⟨S_, .f32⟩
  | 39 => ⟨S384x193, .f32⟩
  | 40 => ⟨S384x193, .f32⟩
  | 41 => ⟨S384x193, .i32⟩
  | 42 => ⟨S_, .i32⟩
  | 43 => ⟨S_, .i32⟩
  | 44 => ⟨S_, .i32⟩
  | 45 => ⟨S384x193, .i32⟩
  | 46 => ⟨S384x193, .i32⟩
  | 47 => ⟨S_, .i32⟩
  | 48 => ⟨S384x193, .i32⟩
  | 49 => ⟨S384x193, .i32⟩
  | 50 => ⟨S_, .f32⟩
  | 51 => ⟨S384x193, .f32⟩
  | 52 => ⟨S384x193, .f32⟩
  | 53 => ⟨S_, .f32⟩
  | 54 => ⟨S384x193, .f32⟩
  | 55 => ⟨S384x193, .f32⟩
  | 56 => ⟨S384x193, .i32⟩
  | 57 => ⟨S_, .i32⟩
  | 58 => ⟨S_, .i32⟩
  | 59 => ⟨S_, .i32⟩
  | 60 => ⟨S384x193, .i32⟩
  | 61 => ⟨S384x193, .i32⟩
  | 62 => ⟨S_, .i32⟩
  | 63 => ⟨S384x193, .i32⟩
  | 64 => ⟨S384x193, .i32⟩
  | 65 => ⟨S_, .i32⟩
  | 66 => ⟨S_, .i32⟩
  | 67 => ⟨S384x256, .i32⟩
  | 68 => ⟨S_, .i32⟩
  | 69 => ⟨S_, .i32⟩
  | 70 => ⟨S384x256, .i32⟩
  | 71 => ⟨S192, .i32⟩
  | 72 => ⟨S_, .i32⟩
  | 73 => ⟨S192, .i32⟩
  | 74 => ⟨S192, .i32⟩
  | 75 => ⟨S_, .i32⟩
  | 76 => ⟨S192, .i32⟩
  | 77 => ⟨S192, .i32⟩
  | 78 => ⟨S192, .i32⟩
  | 79 => ⟨S_, .i32⟩
  | 80 => ⟨S192, .i32⟩
  | 81 => ⟨S192, .i32⟩
  | 82 => ⟨S_, .i32⟩
  | 83 => ⟨S192, .i32⟩
  | 84 => ⟨S192, .i32⟩
  | 85 => ⟨S384, .i32⟩
  | 86 => ⟨S_, .i32⟩
  | 87 => ⟨S384, .i32⟩
  | 88 => ⟨S384, .i1⟩
  | 89 => ⟨S_, .i32⟩
  | 90 => ⟨S384, .i32⟩
  | 91 => ⟨S384, .i32⟩
  | 92 => ⟨S384, .i32⟩
  | 93 => ⟨S384x1, .i32⟩
  | 94 => ⟨S384x256, .i32⟩
  | 95 => ⟨S_, .i32⟩
  | 96 => ⟨S384, .i32⟩
  | 97 => ⟨S384, .i1⟩
  | 98 => ⟨S_, .i32⟩
  | 99 => ⟨S384, .i32⟩
  | 100 => ⟨S384, .i32⟩
  | 101 => ⟨S384, .i32⟩
  | 102 => ⟨S384x1, .i32⟩
  | 103 => ⟨S384x256, .i32⟩
  | 104 => ⟨S1x98304, .i32⟩
  | 105 => ⟨S1x98304, .i32⟩
  | 106 => ⟨S8x98304, .f32⟩
  | 107 => ⟨S24x64, .f32⟩
  | 108 => ⟨S1x64, .f32⟩
  | 109 => ⟨S8x64, .f32⟩
  | _ => ⟨S8x96x384x384, .f32⟩

abbrev hbmTy (i : Nat) : BufTy := match i / 128 with
  | 0 => hbmTy0_0 i
  | 1 => hbmTy0_1 i
  | _ => ⟨S8x96x384x384, .f32⟩

abbrev bufTy : (tb : Table) → Fin (tcTables nBuf tb) → BufTy
  | .hbm, ⟨i, _⟩ => hbmTy i
  | .local _ .vmem, ⟨0, _⟩ => ⟨S1x8x384x384, .f32⟩
  | .local _ .vmem, ⟨1, _⟩ => ⟨S1x8x384x384, .f32⟩
  | .local _ .vmem, ⟨2, _⟩ => ⟨S384x512, .bf16⟩
  | .local _ .vmem, ⟨3, _⟩ => ⟨S192x192, .bf16⟩
  | .local _ .vmem, ⟨4, _⟩ => ⟨S192x192, .bf16⟩
  | .local _ .vmem, ⟨5, _⟩ => ⟨S192x192, .bf16⟩
  | .local _ .vmem, ⟨6, _⟩ => ⟨S192x192, .bf16⟩
  | .local _ .vmem, ⟨7, _⟩ => ⟨S192x192, .bf16⟩
  | .local _ .vmem, ⟨8, _⟩ => ⟨S192x192, .bf16⟩
  | .local _ .vmem, ⟨9, _⟩ => ⟨S1x384x256, .f32⟩
  | .local _ .vmem, ⟨10, _⟩ => ⟨S1x384x256, .f32⟩
  | .local _ .vmem, ⟨11, _⟩ => ⟨S8x98304, .f32⟩
  | .local _ .vmem, ⟨12, _⟩ => ⟨S1x98304, .i32⟩
  | .local _ .vmem, ⟨13, _⟩ => ⟨S1x98304, .i32⟩
  | .local _ .vmem, ⟨14, _⟩ => ⟨S24x64, .f32⟩
  | .local _ .vmem, ⟨15, _⟩ => ⟨S1x64, .f32⟩
  | .local _ .vmem, ⟨16, _⟩ => ⟨S8x64, .f32⟩
  | _, _ => ⟨S8x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_cst : Ref sig .tc := ⟨.hbm, 104, rfl⟩
abbrev main_call2_v3 : Ref sig .tc := ⟨.hbm, 105, rfl⟩
abbrev main_call2_v4 : Ref sig .tc := ⟨.hbm, 106, rfl⟩
abbrev main_call2_cst_0 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_v15 : Ref sig .tc := ⟨.hbm, 119, rfl⟩
abbrev main_call2_v16 : Ref sig .tc := ⟨.hbm, 120, rfl⟩
abbrev main_v76 : Ref sig .tc := ⟨.hbm, 121, rfl⟩
abbrev main_cst_14 : Ref sig .tc := ⟨.hbm, 122, rfl⟩
abbrev main_cst_15 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_cst : Ref sig .tc := ⟨.hbm, 127, rfl⟩
abbrev main_call3_v3 : Ref sig .tc := ⟨.hbm, 128, rfl⟩
abbrev main_call3_v4 : Ref sig .tc := ⟨.hbm, 129, rfl⟩
abbrev main_call3_cst_0 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_cst_1 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_call3_v15 : Ref sig .tc := ⟨.hbm, 142, rfl⟩
abbrev main_call3_v16 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_16 : Ref sig .tc := ⟨.hbm, 151, rfl⟩
abbrev main_cst_17 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v84 : Ref sig .tc := ⟨.hbm, 158, rfl⟩
abbrev main_cst_18 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_19 : Ref sig .tc := ⟨.hbm, 163, rfl⟩
abbrev main_v88 : Ref sig .tc := ⟨.hbm, 164, rfl⟩
abbrev main_v89 : Ref sig .tc := ⟨.hbm, 165, rfl⟩
abbrev main_cst_20 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_c_21 : Ref sig .tc := ⟨.hbm, 170, rfl⟩
abbrev main_c_22 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_v93 : Ref sig .tc := ⟨.hbm, 177, rfl⟩
abbrev main_cst_23 : Ref sig .tc := ⟨.hbm, 178, rfl⟩
abbrev main_v94 : Ref sig .tc := ⟨.hbm, 179, rfl⟩
abbrev main_v95 : Ref sig .tc := ⟨.hbm, 180, rfl⟩
abbrev main_cst_24 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_c_25 : Ref sig .tc := ⟨.hbm, 185, rfl⟩
abbrev main_c_26 : Ref sig .tc := ⟨.hbm, 186, rfl⟩
abbrev main_call6_v0 : Ref sig .tc := ⟨.hbm, 187, rfl⟩
abbrev main_call6_v1 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_v99 : Ref sig .tc := ⟨.hbm, 192, rfl⟩
abbrev main_c_27 : Ref sig .tc := ⟨.hbm, 193, rfl⟩
abbrev main_call7_v0 : Ref sig .tc := ⟨.hbm, 194, rfl⟩
abbrev main_v100 : Ref sig .tc := ⟨.hbm, 195, rfl⟩
abbrev main_c_28 : Ref sig .tc := ⟨.hbm, 196, rfl⟩
abbrev main_call8_v0 : Ref sig .tc := ⟨.hbm, 197, rfl⟩
abbrev main_v101 : Ref sig .tc := ⟨.hbm, 198, rfl⟩
abbrev main_v102 : Ref sig .tc := ⟨.hbm, 199, rfl⟩
abbrev main_c_29 : Ref sig .tc := ⟨.hbm, 200, rfl⟩
abbrev main_v103 : Ref sig .tc := ⟨.hbm, 201, rfl⟩
abbrev main_v104 : Ref sig .tc := ⟨.hbm, 202, rfl⟩
abbrev main_c_30 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_c_31 : Ref sig .tc := ⟨.hbm, 207, rfl⟩
abbrev main_v108 : Ref sig .tc := ⟨.hbm, 208, rfl⟩
abbrev main_v109 : Ref sig .tc := ⟨.hbm, 209, rfl⟩
abbrev main_c_32 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_c_33 : Ref sig .tc := ⟨.hbm, 214, rfl⟩
abbrev main_v113 : Ref sig .tc := ⟨.hbm, 215, rfl⟩
abbrev main_v114 : Ref sig .tc := ⟨.hbm, 216, rfl⟩
abbrev main_c_34 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_c_35 : Ref sig .tc := ⟨.hbm, 223, rfl⟩
abbrev main_v120 : Ref sig .tc := ⟨.hbm, 224, rfl⟩
abbrev main_v121 : Ref sig .tc := ⟨.hbm, 225, rfl⟩
abbrev main_c_36 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v237 : BitVec 1 := Scalar.cmpi .eq arg1 c0_i32
  let v238 : BitVec 32 := Scalar.extui v237
  let c0_i32_65 : BitVec 32 := 0#32
  let v239 : BitVec 1 := Scalar.cmpi .ne v238 c0_i32_65
  v239

def k0_cond2 (i : grid0.Coords) : BitVec 1 :=
  let arg1 : BitVec 32 := BitVec.ofNat 32 (i 1).val
  let c0_i32_66 : BitVec 32 := 0#32
  let v240 : BitVec 1 := Scalar.cmpi .ne arg1 c0_i32_66
  let v241 : BitVec 32 := Scalar.extui v240
  let c0_i32_67 : BitVec 32 := 0#32
  let v242 : BitVec 1 := Scalar.cmpi .ne v241 c0_i32_67
  v242

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S192x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S192x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := .none

abbrev stage1_0 : Fin 1 → Memref sig .tc .vmem S8x98304 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x98304 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x98304 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S24x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "inv_c" => some ((1 / 96 : ℝ) : EReal)
  | _ => none
-- ==== ReferenceIdeal.lean ====
abbrev S8x96x384x384 : Shape := ⟨4, ![8, 96, 384, 384]⟩
abbrev S64x24 : Shape := ⟨2, ![64, 24]⟩
abbrev S64 : Shape := ⟨1, ![64]⟩
abbrev S_ : Shape := ⟨0, ![]⟩
abbrev S384 : Shape := ⟨1, ![384]⟩
abbrev S193 : Shape := ⟨1, ![193]⟩
abbrev S384x1 : Shape := ⟨2, ![384, 1]⟩
abbrev S1x193 : Shape := ⟨2, ![1, 193]⟩
abbrev S384x193 : Shape := ⟨2, ![384, 193]⟩
abbrev S8x96x384x193 : Shape := ⟨4, ![8, 96, 384, 193]⟩
abbrev S1x384 : Shape := ⟨2, ![1, 384]⟩
abbrev S384x384 : Shape := ⟨2, ![384, 384]⟩
abbrev S8x96x193x384 : Shape := ⟨4, ![8, 96, 193, 384]⟩
abbrev S8x384x193 : Shape := ⟨3, ![8, 384, 193]⟩
abbrev S383 : Shape := ⟨1, ![383]⟩
abbrev S1 : Shape := ⟨1, ![1]⟩
abbrev S192 : Shape := ⟨1, ![192]⟩
abbrev S74112 : Shape := ⟨1, ![74112]⟩
abbrev S8x74112 : Shape := ⟨2, ![8, 74112]⟩
abbrev S16 : Shape := ⟨1, ![16]⟩
abbrev S74112x1 : Shape := ⟨2, ![74112, 1]⟩
abbrev S8x16 : Shape := ⟨2, ![8, 16]⟩
abbrev S8 : Shape := ⟨1, ![8]⟩
abbrev S8x8 : Shape := ⟨2, ![8, 8]⟩
abbrev S8x1 : Shape := ⟨2, ![8, 1]⟩
abbrev S8x24 : Shape := ⟨2, ![8, 24]⟩
abbrev S24x64 : Shape := ⟨2, ![24, 64]⟩
abbrev S8x64 : Shape := ⟨2, ![8, 64]⟩
abbrev S1x64 : Shape := ⟨2, ![1, 64]⟩

abbrev nBuf : Space → Nat
  | .hbm => 193
  | .vmem => 0
  | .smem => 0
  | _ => 0

abbrev hbmTy0_0 (i : Nat) : BufTy := match i % 128 with
  | 0 => ⟨S8x96x384x384, .f32⟩
  | 1 => ⟨S64x24, .f32⟩
  | 2 => ⟨S64, .f32⟩
  | 3 => ⟨S_, .f32⟩
  | 4 => ⟨S_, .f32⟩
  | 5 => ⟨S_, .f32⟩
  | 6 => ⟨S_, .f32⟩
  | 7 => ⟨S_, .f32⟩
  | 8 => ⟨S384, .i32⟩
  | 9 => ⟨S193, .i32⟩
  | 10 => ⟨S384x1, .i32⟩
  | 11 => ⟨S1x193, .i32⟩
  | 12 => ⟨S384x193, .i32⟩
  | 13 => ⟨S384x193, .i32⟩
  | 14 => ⟨S384x193, .i32⟩
  | 15 => ⟨S384x193, .f32⟩
  | 16 => ⟨S384x193, .f32⟩
  | 17 => ⟨S384x193, .f32⟩
  | 18 => ⟨S_, .f32⟩
  | 19 => ⟨S384x193, .f32⟩
  | 20 => ⟨S384x193, .f32⟩
  | 21 => ⟨S384x193, .f32⟩
  | 22 => ⟨S8x96x384x193, .f32⟩
  | 23 => ⟨S384x193, .f32⟩
  | 24 => ⟨S8x96x384x193, .f32⟩
  | 25 => ⟨S8x96x384x193, .f32⟩
  | 26 => ⟨S384, .i32⟩
  | 27 => ⟨S384x1, .i32⟩
  | 28 => ⟨S1x384, .i32⟩
  | 29 => ⟨S384x384, .i32⟩
  | 30 => ⟨S384x384, .i32⟩
  | 31 => ⟨S384x384, .i32⟩
  | 32 => ⟨S384x384, .f32⟩
  | 33 => ⟨S384x384, .f32⟩
  | 34 => ⟨S384x384, .f32⟩
  | 35 => ⟨S_, .f32⟩
  | 36 => ⟨S384x384, .f32⟩
  | 37 => ⟨S384x384, .f32⟩
  | 38 => ⟨S384x384, .f32⟩
  | 39 => ⟨S384x384, .f32⟩
  | 40 => ⟨S8x96x193x384, .f32⟩
  | 41 => ⟨S8x96x384x193, .f32⟩
  | 42 => ⟨S8x96x193x384, .f32⟩
  | 43 => ⟨S8x96x384x193, .f32⟩
  | 44 => ⟨S8x96x384x193, .f32⟩
  | 45 => ⟨S8x96x193x384, .f32⟩
  | 46 => ⟨S8x96x384x193, .f32⟩
  | 47 => ⟨S8x96x193x384, .f32⟩
  | 48 => ⟨S8x96x384x193, .f32⟩
  | 49 => ⟨S8x96x384x193, .f32⟩
  | 50 => ⟨S8x96x384x193, .f32⟩
  | 51 => ⟨S8x96x384x193, .f32⟩
  | 52 => ⟨S8x96x384x193, .f32⟩
  | 53 => ⟨S8x96x384x193, .f32⟩
  | 54 => ⟨S_, .f32⟩
  | 55 => ⟨S_, .f32⟩
  | 56 => ⟨S8x96x384x193, .f32⟩
  | 57 => ⟨S8x96x384x193, .f32⟩
  | 58 => ⟨S_, .f32⟩
  | 59 => ⟨S8x384x193, .f32⟩
  | 60 => ⟨S_, .f32⟩
  | 61 => ⟨S8x384x193, .f32⟩
  | 62 => ⟨S8x384x193, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S383, .f32⟩
  | 71 => ⟨S_, .f32⟩
  | 72 => ⟨S383, .f32⟩
  | 73 => ⟨S383, .f32⟩
  | 74 => ⟨S1, .f32⟩
  | 75 => ⟨S_, .f32⟩
  | 76 => ⟨S383, .f32⟩
  | 77 => ⟨S383, .f32⟩
  | 78 => ⟨S383, .f32⟩
  | 79 => ⟨S383, .f32⟩
  | 80 => ⟨S1, .f32⟩
  | 81 => ⟨S383, .f32⟩
  | 82 => ⟨S383, .f32⟩
  | 83 => ⟨S383, .f32⟩
  | 84 => ⟨S1, .f32⟩
  | 85 => ⟨S384, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S192, .f32⟩
  | 94 => ⟨S_, .f32⟩
  | 95 => ⟨S192, .f32⟩
  | 96 => ⟨S192, .f32⟩
  | 97 => ⟨S1, .f32⟩
  | 98 => ⟨S_, .f32⟩
  | 99 => ⟨S192, .f32⟩
  | 100 => ⟨S192, .f32⟩
  | 101 => ⟨S192, .f32⟩
  | 102 => ⟨S192, .f32⟩
  | 103 => ⟨S1, .f32⟩
  | 104 => ⟨S192, .f32⟩
  | 105 => ⟨S192, .f32⟩
  | 106 => ⟨S192, .f32⟩
  | 107 => ⟨S1, .f32⟩
  | 108 => ⟨S193, .f32⟩
  | 109 => ⟨S384x193, .f32⟩
  | 110 => ⟨S384x193, .f32⟩
  | 111 => ⟨S384x193, .f32⟩
  | 112 => ⟨S384x193, .f32⟩
  | 113 => ⟨S384x193, .f32⟩
  | 114 => ⟨S384x193, .f32⟩
  | 115 => ⟨S_, .f32⟩
  | 116 => ⟨S_, .f32⟩
  | 117 => ⟨S_, .f32⟩
  | 118 => ⟨S384x193, .f32⟩
  | 119 => ⟨S384x193, .f32⟩
  | 120 => ⟨S_, .f32⟩
  | 121 => ⟨S384x193, .f32⟩
  | 122 => ⟨S384x193, .f32⟩
  | 123 => ⟨S_, .f32⟩
  | 124 => ⟨S384x193, .f32⟩
  | 125 => ⟨S384x193, .f32⟩
  | 126 => ⟨S384x193, .f32⟩
  | 127 => ⟨S_, .f32⟩
  | _ => ⟨S8x96x384x384, .f32⟩

abbrev hbmTy0_1 (i : Nat) : BufTy := match i % 128 with
  | 0 => ⟨S384x193, .f32⟩
  | 1 => ⟨S384x193, .f32⟩
  | 2 => ⟨S_, .f32⟩
  | 3 => ⟨S384x193, .f32⟩
  | 4 => ⟨S384x193, .f32⟩
  | 5 => ⟨S384x193, .i32⟩
  | 6 => ⟨S_, .i32⟩
  | 7 => ⟨S_, .i32⟩
  | 8 => ⟨S_, .i32⟩
  | 9 => ⟨S384x193, .i32⟩
  | 10 => ⟨S384x193, .i32⟩
  | 11 => ⟨S_, .i32⟩
  | 12 => ⟨S384x193, .i32⟩
  | 13 => ⟨S384x193, .i32⟩
  | 14 => ⟨S74112, .i32⟩
  | 15 => ⟨S_, .f32⟩
  | 16 => ⟨S384x193, .f32⟩
  | 17 => ⟨S384x193, .f32⟩
  | 18 => ⟨S_, .f32⟩
  | 19 => ⟨S384x193, .f32⟩
  | 20 => ⟨S384x193, .f32⟩
  | 21 => ⟨S384x193, .i32⟩
  | 22 => ⟨S_, .i32⟩
  | 23 => ⟨S_, .i32⟩
  | 24 => ⟨S_, .i32⟩
  | 25 => ⟨S384x193, .i32⟩
  | 26 => ⟨S384x193, .i32⟩
  | 27 => ⟨S_, .i32⟩
  | 28 => ⟨S384x193, .i32⟩
  | 29 => ⟨S384x193, .i32⟩
  | 30 => ⟨S74112, .i32⟩
  | 31 => ⟨S8x384x193, .f32⟩
  | 32 => ⟨S8x74112, .f32⟩
  | 33 => ⟨S_, .f32⟩
  | 34 => ⟨S16, .f32⟩
  | 35 => ⟨S74112x1, .i32⟩
  | 36 => ⟨S8x16, .f32⟩
  | 37 => ⟨S8x16, .f32⟩
  | 38 => ⟨S_, .f32⟩
  | 39 => ⟨S8, .f32⟩
  | 40 => ⟨S74112x1, .i32⟩
  | 41 => ⟨S8x8, .f32⟩
  | 42 => ⟨S8x8, .f32⟩
  | 43 => ⟨S_, .f32⟩
  | 44 => ⟨S8, .f32⟩
  | 45 => ⟨S8x1, .f32⟩
  | 46 => ⟨S_, .f32⟩
  | 47 => ⟨S8x1, .f32⟩
  | 48 => ⟨S8x1, .f32⟩
  | 49 => ⟨S8x16, .f32⟩
  | 50 => ⟨S8x16, .f32⟩
  | 51 => ⟨S_, .f32⟩
  | 52 => ⟨S8, .f32⟩
  | 53 => ⟨S8x1, .f32⟩
  | 54 => ⟨S_, .f32⟩
  | 55 => ⟨S8x1, .f32⟩
  | 56 => ⟨S8x1, .f32⟩
  | 57 => ⟨S8x8, .f32⟩
  | 58 => ⟨S8x8, .f32⟩
  | 59 => ⟨S8x24, .f32⟩
  | 60 => ⟨S24x64, .f32⟩
  | 61 => ⟨S8x64, .f32⟩
  | 62 => ⟨S1x64, .f32⟩
  | 63 => ⟨S8x64, .f32⟩
  | 64 => ⟨S8x64, .f32⟩
  | _ => ⟨S8x96x384x384, .f32⟩

abbrev hbmTy (i : Nat) : BufTy := match i / 128 with
  | 0 => hbmTy0_0 i
  | 1 => hbmTy0_1 i
  | _ => ⟨S8x96x384x384, .f32⟩

abbrev bufTy : (tb : Table) → Fin (tcTables nBuf tb) → BufTy
  | .hbm, ⟨i, _⟩ => hbmTy i
  | _, _ => ⟨S8x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_cst : Ref sig .tc := ⟨.hbm, 68, rfl⟩
abbrev main_call0_v3 : Ref sig .tc := ⟨.hbm, 69, rfl⟩
abbrev main_call0_v4 : Ref sig .tc := ⟨.hbm, 70, rfl⟩
abbrev main_call0_cst_0 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_call0_v15 : Ref sig .tc := ⟨.hbm, 83, rfl⟩
abbrev main_call0_v16 : Ref sig .tc := ⟨.hbm, 84, rfl⟩
abbrev main_v52 : Ref sig .tc := ⟨.hbm, 85, rfl⟩
abbrev main_cst_9 : Ref sig .tc := ⟨.hbm, 86, rfl⟩
abbrev main_cst_10 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_cst : Ref sig .tc := ⟨.hbm, 91, rfl⟩
abbrev main_call1_v3 : Ref sig .tc := ⟨.hbm, 92, rfl⟩
abbrev main_call1_v4 : Ref sig .tc := ⟨.hbm, 93, rfl⟩
abbrev main_call1_cst_0 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_v12 : Ref sig .tc := ⟨.hbm, 103, rfl⟩
abbrev main_call1_v13 : Ref sig .tc := ⟨.hbm, 104, rfl⟩
abbrev main_call1_v14 : Ref sig .tc := ⟨.hbm, 105, rfl⟩
abbrev main_call1_v15 : Ref sig .tc := ⟨.hbm, 106, rfl⟩
abbrev main_call1_v16 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_11 : Ref sig .tc := ⟨.hbm, 115, rfl⟩
abbrev main_cst_12 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v60 : Ref sig .tc := ⟨.hbm, 122, rfl⟩
abbrev main_cst_13 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_14 : Ref sig .tc := ⟨.hbm, 127, rfl⟩
abbrev main_v64 : Ref sig .tc := ⟨.hbm, 128, rfl⟩
abbrev main_v65 : Ref sig .tc := ⟨.hbm, 129, rfl⟩
abbrev main_cst_15 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c : Ref sig .tc := ⟨.hbm, 134, rfl⟩
abbrev main_c_16 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v69 : Ref sig .tc := ⟨.hbm, 141, rfl⟩
abbrev main_v70 : Ref sig .tc := ⟨.hbm, 142, rfl⟩
abbrev main_cst_17 : Ref sig .tc := ⟨.hbm, 143, rfl⟩
abbrev main_v71 : Ref sig .tc := ⟨.hbm, 144, rfl⟩
abbrev main_v72 : Ref sig .tc := ⟨.hbm, 145, rfl⟩
abbrev main_cst_18 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_c_19 : Ref sig .tc := ⟨.hbm, 150, rfl⟩
abbrev main_c_20 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_21 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_22 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_23 : Ref sig .tc := ⟨.hbm, 171, rfl⟩
abbrev main_v88 : Ref sig .tc := ⟨.hbm, 172, rfl⟩
abbrev main_v89 : Ref sig .tc := ⟨.hbm, 173, rfl⟩
abbrev main_cst_24 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_cst_25 : Ref sig .tc := ⟨.hbm, 179, rfl⟩
abbrev main_v94 : Ref sig .tc := ⟨.hbm, 180, rfl⟩
abbrev main_v95 : Ref sig .tc := ⟨.hbm, 181, rfl⟩
abbrev main_cst_26 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩

abbrev nD : Nat := 1
abbrev τ : Topo := Topo.v7x

variable {F : FTy → Type} [FloatOps F]
-- ==== Proof.Ideal.Spec.lean ====
/- The spectrum call: its windows' blocks, when each of its two conditionals is taken, and which staging buffer each
   window uses at a point.  `V` is what the arrays hold when the call is reached. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 12 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ 1 ≤ t.val % 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x800800800800800800800800 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_B : ∀ t : Fin cfg0.N, ¬cond0_0 (grid0.coords t) → cond0_1 (grid0.coords t) → cfg0.fresh 8 t.val = false := by
  intro t; rw [fresh0_8_eq t]; revert t; decide +kernel

/-! ## The kernel body on any staging memrefs: a subtype the run finds -/

/-- One staging buffer of output window 8, through which its contents are stated (`View.read_writes_of_cover`: the
    choice does not matter). -/
abbrev VO0_8 : View sig .tc .vmem S1x384x256 .f32 := (Memref.whole cc0_stg8_0 : Memref sig .tc .vmem S1x384x256 .f32).view
/-- Each window's current staging memref at point `t`, spelled as the pipeline passes it (`bodyAt0`), and its wholeness. -/
abbrev ms0_0 (t : Fin cfg0.N) : Memref sig .tc .vmem S1x8x384x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S192x192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x256 .f32 := win0_8.stage (cfg0.slots t 8)
abbrev hs0_8 (t : Fin cfg0.N) : (ms0_8 t).IsWhole := hstage0_8 ((cfg0.slots t 8).cast nbuf0_8)

end Spectral.Ideal

end
-- ==== Proof.Ideal.SpecFirst.lean ====
/- The spectrum call's body at the first step of a row of the grid: it stores the block's sum. -/
module

public import proofs.«01_k».proof.Proof.Ideal.Spec

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 12, … 84: 8 of 96), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : cond0_0 i) (hc1 : ¬cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) :
    { L8 : List (View.Piece (Elt F) S1x384x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__spec_kernel i arg2 harg2 arg3 harg3 arg4 harg4 arg5 harg5 arg6 harg6 arg7 harg7 arg8 harg8 arg9 harg9 arg10 harg10) K } := by
  refine ⟨?_, fun E K => ?run⟩
  case run =>
    simp only [cc0__spec_kernel_eq_skeleton]; unfold cc0__spec_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Spectral.Ideal

end
-- ==== Proof.Ideal.SpecLater.lean ====
/- The spectrum call's body at a later step: it adds the block's sum to what the step before left. -/
module

public import proofs.«01_k».proof.Proof.Ideal.Spec

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 95: 88 of 96), WITH the
    proof that on whole staging memrefs — the inputs' at their contents, the outputs it reads before covering (8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : ¬cond0_0 i) (hc1 : cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) (xo8 : Vec F S1x384x256 .f32) :
    { L8 : List (View.Piece (Elt F) S1x384x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__spec_kernel i arg2 harg2 arg3 harg3 arg4 harg4 arg5 harg5 arg6 harg6 arg7 harg7 arg8 harg8 arg9 harg9 arg10 harg10) K } := by
  refine ⟨?_, fun E K => ?run⟩
  case run =>
    simp only [cc0__spec_kernel_eq_skeleton]; unfold cc0__spec_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Spectral.Ideal

end
-- ==== Proof.Ideal.SpecData.lean ====
/- The spectrum call's proof data: what its output block holds after each step, and the body's obligation. -/
module

public import proofs.«01_k».proof.Proof.Ideal.SpecFirst
public import proofs.«01_k».proof.Proof.Ideal.SpecLater

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A's pieces for output 8 tile its block (1 store of `S1x384x256`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : cond0_0 i) (hc1 : ¬cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) (y : S1x384x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6 x7).1 S1x384x256.size (by sl_kernel_rfl) y

/-- What case A leaves in output 8's staging buffer: its pieces read back over junk. -/
def out0_A_8 (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : cond0_0 i) (hc1 : ¬cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) : Vec F S1x384x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 hc1 x0 x1 x2 x3 x4 x5 x6 x7).1)

/-- Case B's pieces for output 8 tile its block (1 store of `S1x384x256`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : ¬cond0_0 i) (hc1 : cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) (xo8 : Vec F S1x384x256 .f32) (y : S1x384x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 x7 xo8).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 x7 xo8).1 S1x384x256.size (by sl_kernel_rfl) y

/-- What case B leaves in output 8's staging buffer: its pieces read back over junk. -/
def out0_B_8 (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : ¬cond0_0 i) (hc1 : cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) (xo8 : Vec F S1x384x256 .f32) : Vec F S1x384x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x384x256 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩)
  | n + 1, hn =>
    if h0 : (n + 1) % 12 = 0 then
      if h1 : 1 ≤ (n + 1) % 12 then
        False.elim (by have hN : n + 1 < 96 := lt_of_lt_of_eq hn (show cfg0.N = 96 from N_0); omega)
      else
        out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩)
    else
      if h1 : 1 ≤ (n + 1) % 12 then
        out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn))
      else
        False.elim (by have hN : n + 1 < 96 := lt_of_lt_of_eq hn (show cfg0.N = 96 from N_0); omega)

/-- `outsAt0` at a point of case A: that case's contents. -/
theorem outsAt0_A (c : Dev nD) (t : Fin cfg0.N) (h0 : t.val % 12 = 0) (h1 : ¬1 ≤ t.val % 12) :
    outsAt0 V c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : 1 ≤ t.val % 12) :
    outsAt0 V c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dat0 V c).after 8 t = (dat0 V c).after 8 ⟨t.val - 1, by omega⟩ := by
  intro t _ hi _
  have hN : t.val < 96 := lt_of_lt_of_eq t.isLt (show cfg0.N = 96 from N_0)
  rw [after0_8, after0_8]
  by_cases h0 : t.val % 12 = 0
  · by_cases h1 : 1 ≤ t.val % 12
    · exfalso; omega
    · rw [liveAt0_8_A t ((hcond0_0 t).mpr h0) (fun h => h1 ((hcond0_1 t).mp h))] at hi
      exact absurd hi Bool.false_ne_true
  · by_cases h1 : 1 ≤ t.val % 12
    · rw [liveAt0_8_B t (fun h => h0 ((hcond0_0 t).mp h)) ((hcond0_1 t).mpr h1)] at hi
      exact absurd hi Bool.false_ne_true
    · exfalso; omega
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 12 = 0) (h1 : 1 ≤ t.val % 12) (d) :
    (dat0 V c).before 8 t d = (outsAt0 V c (t.val - 1) (Nat.lt_of_le_of_lt (Nat.sub_le _ _) t.isLt)) := by
  rw [Dat.before_out_traj _ 8 rfl (fun _ _ => rfl) (hcarry0_8 V c) t.val t rfl d,
    if_neg (by rw [notFresh0_8_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl]
  have hN : t.val < 96 := lt_of_lt_of_eq t.isLt (show cfg0.N = 96 from N_0)
  by_cases h0 : t.val % 12 = 0
  · by_cases h1 : 1 ≤ t.val % 12
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_A t ((hcond0_0 t).mpr h0) (fun h => h1 ((hcond0_1 t).mp h))], after0_8]
      rw [outsAt0_A V c t h0 h1]
      unfold out0_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · by_cases h1 : 1 ≤ t.val % 12
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_B t (fun h => h0 ((hcond0_0 t).mp h)) ((hcond0_1 t).mpr h1)], after0_8]
      rw [outsAt0_B V c t h0 h1]
      simp only [before0_8_B V c t h0 h1]
      unfold out0_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Spectral.Ideal

end
-- ==== Proof.Ideal.HistData.lean ====
/- The histogram call: what its body leaves in the output and the body's obligation.  `V` is what the arrays hold
   when the call is reached. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__hist_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8x98304 := Rect.unit (s := S8x98304) ![0, 0] S8x98304.size inb_S8x98304_S8x98304_0_0
abbrev r1_1 : Rect S1x98304 := Rect.unit (s := S1x98304) ![0, 0] S1x98304.size inb_S1x98304_S1x98304_0_0
abbrev r1_2 : Rect S24x64 := Rect.unit (s := S24x64) ![0, 0] S24x64.size inb_S24x64_S24x64_0_0
abbrev r1_3 : Rect S1x64 := Rect.unit (s := S1x64) ![0, 0] S1x64.size inb_S1x64_S1x64_0_0
abbrev r1_4 : Rect S8x64 := Rect.unit (s := S8x64) ![0, 0] S8x64.size inb_S8x64_S8x64_0_0

/-! ## What the body leaves in each output window's buffer -/

/-! ### Values of the body that the stores' payloads, spelt out, would write more than once

    Each is a vector the body binds (often a part call's result), stated over the input windows' blocks and
    numbered on from the skeleton's payload functions (`k1_pay32` …, after `k1_pay31`), so that
    `out1_W` and the values after it name it instead of spelling it out (opening `out1_5` opens a canon
    with them, `unfold_payloads` opens them with the payloads); the comment after each is the printed function's
    name for the value (a count appended where that name is bound again). -/

def k1_pay32 (x0 : Vec F S8x98304 .f32) (x1 : Vec F S1x98304 .i32) (x2 : Vec F S1x98304 .i32) (x3 : Vec F S24x64 .f32) (x4 : Vec F S1x64 .f32) : FVec F S8x98304 .f32 :=
  k1_pay2 (View.ld x0 r1_0) -- `v4`
def k1_pay33 (x0 : Vec F S8x98304 .f32) (x1 : Vec F S1x98304 .i32) (x2 : Vec F S1x98304 .i32) (x3 : Vec F S24x64 .f32) (x4 : Vec F S1x64 .f32) : IVec S1x98304 32 :=
  k1_pay3 (View.ld x1 r1_1) -- `v6`
def k1_pay34 (x0 : Vec F S8x98304 .f32) (x1 : Vec F S1x98304 .i32) (x2 : Vec F S1x98304 .i32) (x3 : Vec F S24x64 .f32) (x4 : Vec F S1x64 .f32) : IVec S1x98304 32 :=
  k1_pay4 (View.ld x2 r1_1) -- `v8`
def k1_pay35 (x0 : Vec F S8x98304 .f32) (x1 : Vec F S1x98304 .i32) (x2 : Vec F S1x98304 .i32) (x3 : Vec F S24x64 .f32) (x4 : Vec F S1x64 .f32) : FVec F S8x1 .f32 :=
  k1_pay5 (View.ld x0 r1_0) (View.ld x1 r1_1) -- `v16`
def k1_pay36 (x0 : Vec F S8x98304 .f32) (x1 : Vec F S1x98304 .i32) (x2 : Vec F S1x98304 .i32) (x3 : Vec F S24x64 .f32) (x4 : Vec F S1x64 .f32) : FVec F S8x1 .f32 :=
  k1_pay6 (View.ld x0 r1_0) (View.ld x1 r1_1) -- `v24`
def k1_pay37 (x0 : Vec F S8x98304 .f32) (x1 : Vec F S1x98304 .i32) (x2 : Vec F S1x98304 .i32) (x3 : Vec F S24x64 .f32) (x4 : Vec F S1x64 .f32) : FVec F S8x1 .f32 :=
  k1_pay7 (View.ld x0 r1_0) (View.ld x1 r1_1) -- `v32`
def k1_pay38 (x0 : Vec F S8x98304 .f32) (x1 : Vec F S1x98304 .i32) (x2 : Vec F S1x98304 .i32) (x3 : Vec F S24x64 .f32) (x4 : Vec F S1x64 .f32) : FVec F S8x1 .f32 :=
  k1_pay8 (View.ld x0 r1_0) (View.ld x1 r1_1) -- `v40`
def k1_pay39 (x0 : Vec F S8x98304 .f32) (x1 : Vec F S1x98304 .i32) (x2 : Vec F S1x98304 .i32) (x3 : Vec F S24x64 .f32) (x4 : Vec F S1x64 .f32) : FVec F S8x1 .f32 :=
  k1_pay9 (k1_pay32 x0 x1 x2 x3 x4) (k1_pay33 x0 x1 x2 x3 x4) -- `v48`
def k1_pay40 (x0 : Vec F S8x98304 .f32) (x1 : Vec F S1x98304 .i32) (x2 : Vec F S1x98304 .i32) (x3 : Vec F S24x64 .f32) (x4 : Vec F S1x64 .f32) : FVec F S8x1 .f32 :=
  k1_pay10 (k1_pay32 x0 x1 x2 x3 x4) (k1_pay33 x0 x1 x2 x3 x4) -- `v56`
def k1_pay41 (x0 : Vec F S8x98304 .f32) (x1 : Vec F S1x98304 .i32) (x2 : Vec F S1x98304 .i32) (x3 : Vec F S24x64 .f32) (x4 : Vec F S1x64 .f32) : FVec F S8x1 .f32 :=
  k1_pay11 (k1_pay32 x0 x1 x2 x3 x4) (k1_pay33 x0 x1 x2 x3 x4) -- `v64`
def k1_pay42 (x0 : Vec F S8x98304 .f32) (x1 : Vec F S1x98304 .i32) (x2 : Vec F S1x98304 .i32) (x3 : Vec F S24x64 .f32) (x4 : Vec F S1x64 .f32) : FVec F S8x1 .f32 :=
  k1_pay12 (k1_pay32 x0 x1 x2 x3 x4) (k1_pay33 x0 x1 x2 x3 x4) -- `v72`
def k1_pay43 (x0 : Vec F S8x98304 .f32) (x1 : Vec F S1x98304 .i32) (x2 : Vec F S1x98304 .i32) (x3 : Vec F S24x64 .f32) (x4 : Vec F S1x64 .f32) : FVec F S8x1 .f32 :=
  k1_pay13 (k1_pay32 x0 x1 x2 x3 x4) (k1_pay33 x0 x1 x2 x3 x4) -- `v80`
def k1_pay44 (x0 : Vec F S8x98304 .f32) (x1 : Vec F S1x98304 .i32) (x2 : Vec F S1x98304 .i32) (x3 : Vec F S24x64 .f32) (x4 : Vec F S1x64 .f32) : FVec F S8x1 .f32 :=
  k1_pay15 (k1_pay32 x0 x1 x2 x3 x4) (Scalar.ofBits .f32 0x00000000#32) (k1_pay14 (k1_pay33 x0 x1 x2 x3 x4)) -- `v88`
def k1_pay45 (x0 : Vec F S8x98304 .f32) (x1 : Vec F S1x98304 .i32) (x2 : Vec F S1x98304 .i32) (x3 : Vec F S24x64 .f32) (x4 : Vec F S1x64 .f32) : FVec F S8x1 .f32 :=
  k1_pay16 (k1_pay32 x0 x1 x2 x3 x4) (k1_pay33 x0 x1 x2 x3 x4) -- `v96`
def k1_pay46 (x0 : Vec F S8x98304 .f32) (x1 : Vec F S1x98304 .i32) (x2 : Vec F S1x98304 .i32) (x3 : Vec F S24x64 .f32) (x4 : Vec F S1x64 .f32) : FVec F S8x1 .f32 :=
  k1_pay17 (k1_pay32 x0 x1 x2 x3 x4) (k1_pay33 x0 x1 x2 x3 x4) -- `v104`
def k1_pay47 (x0 : Vec F S8x98304 .f32) (x1 : Vec F S1x98304 .i32) (x2 : Vec F S1x98304 .i32) (x3 : Vec F S24x64 .f32) (x4 : Vec F S1x64 .f32) : FVec F S8x1 .f32 :=
  k1_pay18 (k1_pay32 x0 x1 x2 x3 x4) (k1_pay33 x0 x1 x2 x3 x4) -- `v112`
def k1_pay48 (x0 : Vec F S8x98304 .f32) (x1 : Vec F S1x98304 .i32) (x2 : Vec F S1x98304 .i32) (x3 : Vec F S24x64 .f32) (x4 : Vec F S1x64 .f32) : FVec F S8x1 .f32 :=
  k1_pay19 (k1_pay32 x0 x1 x2 x3 x4) (k1_pay33 x0 x1 x2 x3 x4) -- `v120`
def k1_pay49 (x0 : Vec F S8x98304 .f32) (x1 : Vec F S1x98304 .i32) (x2 : Vec F S1x98304 .i32) (x3 : Vec F S24x64 .f32) (x4 : Vec F S1x64 .f32) : FVec F S8x1 .f32 :=
  k1_pay21 (k1_pay20 (k1_pay32 x0 x1 x2 x3 x4) (k1_pay33 x0 x1 x2 x3 x4)) -- `v128`
def k1_pay50 (x0 : Vec F S8x98304 .f32) (x1 : Vec F S1x98304 .i32) (x2 : Vec F S1x98304 .i32) (x3 : Vec F S24x64 .f32) (x4 : Vec F S1x64 .f32) : FVec F S8x1 .f32 :=
  k1_pay22 (k1_pay32 x0 x1 x2 x3 x4) (k1_pay33 x0 x1 x2 x3 x4) -- `v136`
def k1_pay51 (x0 : Vec F S8x98304 .f32) (x1 : Vec F S1x98304 .i32) (x2 : Vec F S1x98304 .i32) (x3 : Vec F S24x64 .f32) (x4 : Vec F S1x64 .f32) : FVec F S8x1 .f32 :=
  k1_pay23 (k1_pay32 x0 x1 x2 x3 x4) (k1_pay34 x0 x1 x2 x3 x4) -- `v144`
def k1_pay52 (x0 : Vec F S8x98304 .f32) (x1 : Vec F S1x98304 .i32) (x2 : Vec F S1x98304 .i32) (x3 : Vec F S24x64 .f32) (x4 : Vec F S1x64 .f32) : FVec F S8x1 .f32 :=
  k1_pay24 (k1_pay32 x0 x1 x2 x3 x4) (k1_pay34 x0 x1 x2 x3 x4) -- `v152`
def k1_pay53 (x0 : Vec F S8x98304 .f32) (x1 : Vec F S1x98304 .i32) (x2 : Vec F S1x98304 .i32) (x3 : Vec F S24x64 .f32) (x4 : Vec F S1x64 .f32) : FVec F S8x1 .f32 :=
  k1_pay25 (k1_pay32 x0 x1 x2 x3 x4) (k1_pay34 x0 x1 x2 x3 x4) -- `v160`
def k1_pay54 (x0 : Vec F S8x98304 .f32) (x1 : Vec F S1x98304 .i32) (x2 : Vec F S1x98304 .i32) (x3 : Vec F S24x64 .f32) (x4 : Vec F S1x64 .f32) : FVec F S8x1 .f32 :=
  k1_pay26 (k1_pay32 x0 x1 x2 x3 x4) (k1_pay34 x0 x1 x2 x3 x4) -- `v168`
def k1_pay55 (x0 : Vec F S8x98304 .f32) (x1 : Vec F S1x98304 .i32) (x2 : Vec F S1x98304 .i32) (x3 : Vec F S24x64 .f32) (x4 : Vec F S1x64 .f32) : IVec S1x98304 1 :=
  k1_pay27 (k1_pay34 x0 x1 x2 x3 x4) -- `v170`

/-- Window 5's staging buffer after the body, from the input windows' blocks: its 1 store as pieces, LAST
    FIRST (Lib/Pipeline/FrameBody.lean `View.canon`; the payloads are the skeleton's and the values stated above). -/
def out1_5 (x0 : Vec F S8x98304 .f32) (x1 : Vec F S1x98304 .i32) (x2 : Vec F S1x98304 .i32) (x3 : Vec F S24x64 .f32) (x4 : Vec F S1x64 .f32) : Vec F S8x64 .f32 :=
  View.canon [⟨r1_4, k1_pay1 (k1_pay28 (k1_pay32 x0 x1 x2 x3 x4) (k1_pay34 x0 x1 x2 x3 x4) (k1_pay35 x0 x1 x2 x3 x4) (k1_pay36 x0 x1 x2 x3 x4) (k1_pay37 x0 x1 x2 x3 x4) (k1_pay38 x0 x1 x2 x3 x4) (k1_pay39 x0 x1 x2 x3 x4) (k1_pay40 x0 x1 x2 x3 x4) (k1_pay41 x0 x1 x2 x3 x4) (k1_pay42 x0 x1 x2 x3 x4) (k1_pay43 x0 x1 x2 x3 x4) (k1_pay44 x0 x1 x2 x3 x4) (k1_pay45 x0 x1 x2 x3 x4) (k1_pay46 x0 x1 x2 x3 x4) (k1_pay47 x0 x1 x2 x3 x4) (k1_pay48 x0 x1 x2 x3 x4) (k1_pay49 x0 x1 x2 x3 x4) (k1_pay50 x0 x1 x2 x3 x4) (k1_pay51 x0 x1 x2 x3 x4) (k1_pay52 x0 x1 x2 x3 x4) (k1_pay53 x0 x1 x2 x3 x4) (k1_pay54 x0 x1 x2 x3 x4) (k1_pay55 x0 x1 x2 x3 x4) (Scalar.ofBits .f32 0x00000000#32)) (k1_pay29 (k1_pay32 x0 x1 x2 x3 x4) (k1_pay34 x0 x1 x2 x3 x4) (k1_pay35 x0 x1 x2 x3 x4) (k1_pay36 x0 x1 x2 x3 x4) (k1_pay37 x0 x1 x2 x3 x4) (k1_pay38 x0 x1 x2 x3 x4) (k1_pay39 x0 x1 x2 x3 x4) (k1_pay40 x0 x1 x2 x3 x4) (k1_pay41 x0 x1 x2 x3 x4) (k1_pay42 x0 x1 x2 x3 x4) (k1_pay43 x0 x1 x2 x3 x4) (k1_pay44 x0 x1 x2 x3 x4) (k1_pay45 x0 x1 x2 x3 x4) (k1_pay46 x0 x1 x2 x3 x4) (k1_pay47 x0 x1 x2 x3 x4) (k1_pay48 x0 x1 x2 x3 x4) (k1_pay49 x0 x1 x2 x3 x4) (k1_pay50 x0 x1 x2 x3 x4) (k1_pay51 x0 x1 x2 x3 x4) (k1_pay52 x0 x1 x2 x3 x4) (k1_pay53 x0 x1 x2 x3 x4) (k1_pay54 x0 x1 x2 x3 x4) (k1_pay55 x0 x1 x2 x3 x4) (Scalar.ofBits .f32 0x00000000#32)) k1_pay30 (k1_pay31 (k1_pay32 x0 x1 x2 x3 x4) (k1_pay34 x0 x1 x2 x3 x4) (k1_pay35 x0 x1 x2 x3 x4) (k1_pay36 x0 x1 x2 x3 x4) (k1_pay37 x0 x1 x2 x3 x4) (k1_pay38 x0 x1 x2 x3 x4) (k1_pay39 x0 x1 x2 x3 x4) (k1_pay40 x0 x1 x2 x3 x4) (k1_pay41 x0 x1 x2 x3 x4) (k1_pay42 x0 x1 x2 x3 x4) (k1_pay43 x0 x1 x2 x3 x4) (k1_pay44 x0 x1 x2 x3 x4) (k1_pay45 x0 x1 x2 x3 x4) (k1_pay46 x0 x1 x2 x3 x4) (k1_pay47 x0 x1 x2 x3 x4) (k1_pay48 x0 x1 x2 x3 x4) (k1_pay49 x0 x1 x2 x3 x4) (k1_pay50 x0 x1 x2 x3 x4) (k1_pay51 x0 x1 x2 x3 x4) (k1_pay52 x0 x1 x2 x3 x4) (k1_pay53 x0 x1 x2 x3 x4) (k1_pay54 x0 x1 x2 x3 x4) (k1_pay55 x0 x1 x2 x3 x4) (Scalar.ofBits .f32 0x00000000#32)) (View.ld x3 r1_2) (View.ld x4 r1_3)⟩]

/-- Its stores tile the buffer (checked by evaluation), so they cover it. -/
theorem cover1_5 (p0 : Vec F S8x64 .f32) (y : S8x64.Idx) :
    ∃ pc ∈ ([⟨r1_4, p0⟩] : List (View.Piece (Elt F) S8x64 .f32)), y ∈ pc.1.set :=
  View.cover_of_tiled [⟨r1_4, p0⟩] S8x64.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S8x98304 .f32) (harg0 : arg0.IsWhole) (arg1 : Memref sig .tc .vmem S1x98304 .i32) (harg1 : arg1.IsWhole) (arg2 : Memref sig .tc .vmem S1x98304 .i32) (harg2 : arg2.IsWhole) (arg3 : Memref sig .tc .vmem S24x64 .f32) (harg3 : arg3.IsWhole) (arg4 : Memref sig .tc .vmem S1x64 .f32) (harg4 : arg4.IsWhole) (arg5 : Memref sig .tc .vmem S8x64 .f32) (harg5 : arg5.IsWhole)
    (x0 : Vec F S8x98304 .f32) (x1 : Vec F S1x98304 .i32) (x2 : Vec F S1x98304 .i32) (x3 : Vec F S24x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__hist_kernel arg0 harg0 arg1 harg1 arg2 harg2 arg3 harg3 arg4 harg4 arg5 harg5) K := by
  simp only [cc1__hist_kernel_eq_skeleton]; unfold cc1__hist_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Spectral.Ideal

end
-- ==== Proof.Ideal.Run.lean ====
/- The launch: both calls as segments between the stretches of host operations, and what every run ends with. -/
module

public import proofs.«01_k».proof.Proof.Ideal.SpecData
public import proofs.«01_k».proof.Proof.Ideal.HistData
public import proofs.«01_k».proof.Proof.Gen.KernelIdeal.Regions

@[expose] public section

set_option maxRecDepth 16384

noncomputable section

namespace Spectral.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the arrays hold at each call's entry and exit -/

/-- What the buffers hold when the spectrum call is reached. -/
abbrev entry0 : (c : Dev nD) → (b : Ref sig .tc) → Buf (Elt F) ((c : Thread nD τ).loc b) := fun c b => V5 m c b

/-- The spectrum array the first call leaves. -/
def specOut (c : Dev nD) : Buf (Elt F) ((c : Thread nD τ).loc main_v75) := (dat0 (entry0 m) c).arrAt 8 cfg0.N

/-- The two calls' results, as the contents the generated chain of valuations is stated over: after item 6 the spectrum
    array is `A`, after item 22 the result array is `B`. -/
def outsOf (A : (c : Dev nD) → Buf (Elt F) ((c : Thread nD τ).loc main_v75))
    (B : (c : Dev nD) → Buf (Elt F) ((c : Thread nD τ).loc main_v132)) : Outs (F := F) := fun k r c =>
  match k with
  | 6 => Function.update (fun r => m ((c : Thread nD τ).loc r)) main_v75 (A c) r
  | _ => Function.update (fun r => m ((c : Thread nD τ).loc r)) main_v132 (B c) r

/-- The results with only the first call run: what the second call's entry needs. -/
abbrev outs0 : Outs (F := F) := outsOf m (specOut m) (fun c => m ((c : Thread nD τ).loc main_v132))

/-- What the buffers hold when the histogram call is reached. -/
abbrev entry1 : (c : Dev nD) → (b : Ref sig .tc) → Buf (Elt F) ((c : Thread nD τ).loc b) := fun c b => V21 m (outs0 m) c b

/-- The array the second call leaves: the program's result. -/
def histOut (c : Dev nD) : Buf (Elt F) ((c : Thread nD τ).loc main_v132) := (dat1 (entry1 m) c).arrAt 5 cfg1.N

/-- Both calls' results. -/
abbrev outsF : Outs (F := F) := outsOf m (specOut m) (histOut m)

/-- The second call is entered from the same contents whatever is named as its result. -/
theorem V21_outs (c : Dev nD) : V21 m (outsF m) c = V21 m (outs0 m) c := rfl

/-- After the first call the spectrum array holds its result. -/
theorem V6_main_v75 (c : Dev nD) : V6 m (outsF m) c main_v75 = specOut m c := by
  simp only [V6, Function.update_self, outsOf]

/-- After the second call the result array holds its result. -/
theorem V22_main_v132 (c : Dev nD) : V22 m (outsF m) c main_v132 = histOut m c := by
  simp only [V22, Function.update_self, outsOf]

/-- At the first call's exit each of its arrays holds what the pipeline leaves. -/
theorem exit0 (c : Dev nD) (w : Fin cfg0.W) :
    (dat0 (entry0 m) c).arrAt w cfg0.N = V6 m (outsF m) c (Pipeline.arrRef spec0 w) := by
  by_cases h : w = 8
  · subst h; exact (V6_main_v75 m c).symm
  · have hin : (cfg0.win w).isOut = false := by revert w; decide
    have hne : Pipeline.arrRef spec0 w ∉ ([main_v75] : List (Ref sig .tc)) := by revert w; decide
    exact ((dat0 (entry0 m) c).arrAt_in w hin _).trans ((A_eq0 (entry0 m) c w).trans (V6_of m (outsF m) c _ hne).symm)

/-- Every other buffer is as the first call found it. -/
theorem rest0 (c : Dev nD) : ∀ b, b ∉ Finset.univ.image (Pipeline.arrRef spec0) → V6 m (outsF m) c b = entry0 m c b :=
  fun b hb => V6_of m (outsF m) c b (fun h => hb (Finset.mem_image.mpr ⟨8, Finset.mem_univ _, (List.mem_singleton.mp h).symm⟩))

/-- At the second call's exit each of its arrays holds what the pipeline leaves. -/
theorem exit1 (c : Dev nD) (w : Fin cfg1.W) :
    (dat1 (entry1 m) c).arrAt w cfg1.N = V22 m (outsF m) c (Pipeline.arrRef spec1 w) := by
  by_cases h : w = 5
  · subst h; exact (V22_main_v132 m c).symm
  · have hin : (cfg1.win w).isOut = false := by revert w; decide
    have hne : Pipeline.arrRef spec1 w ∉ ([main_v132] : List (Ref sig .tc)) := by revert w; decide
    exact ((dat1 (entry1 m) c).arrAt_in w hin _).trans ((A_eq1 (entry1 m) c w).trans
      (congrFun (V21_outs m c).symm _ |>.trans (V22_of m (outsF m) c _ hne).symm))

/-- Every other buffer is as the second call found it. -/
theorem rest1 (c : Dev nD) : ∀ b, b ∉ Finset.univ.image (Pipeline.arrRef spec1) → V22 m (outsF m) c b = entry1 m c b :=
  fun b hb => (V22_of m (outsF m) c b (fun h => hb (Finset.mem_image.mpr ⟨5, Finset.mem_univ _, (List.mem_singleton.mp h).symm⟩))).trans
    (congrFun (V21_outs m c) _)

/-! ## The calls as segments -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- The spectrum call as a segment: its arrays are taken out of the buffers at entry and put back at the exit contents. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outsF m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) (A_eq0 (entry0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V6 m (outsF m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The histogram call as a segment, in the same way. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V21 m (outs0 m) c) ∗ R c)
  post c := iprop(StableHlo.held (c : Thread nD τ) (Pipeline.ucRefs τ sig) (V22 m (outsF m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) (A_eq1 (entry1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V22 m (outsF m) c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program is the run of its segments in order. -/
theorem main_segs (c : Dev nD) : main (F := F) c
    = Pipeline.Seg.run (segs m (outsF m) Variants.none L lv (fun _ => R) () (pdats m) (reg0 m) (reg1 m) c) :=
  (main_chain c).trans (by chain_rfl)

/-- The last thread state, with what is owed set apart. -/
theorem last_state (c : Dev nD) :
    (iprop(StableHlo.held (c : Thread nD τ) (Pipeline.ucRefs τ sig) (V22 m (outsF m) c) ∗ R c) : sProp 𝕄)
      ⊢ iprop((StableHlo.held (c : Thread nD τ) (Pipeline.ucRefs τ sig) (V22 m (outsF m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every run terminates with every semaphore at zero and every buffer at the last contents of the chain. -/
theorem run_ends : θ_run defs (onTc (τ := τ) (main (F := F))) ⟨m, fun _ => 0, ρ⟩ (fun r =>
    (∀ c : Dev nD, ∀ b ∈ Pipeline.ucRefs τ sig, r.2.mem ((c : Thread nD τ).1, b) = V22 m (outsF m) c b) ∧ r.2.sem = fun _ => 0) :=
  Pipeline.θ_run_regions_kit_dev_sems (pcfgs (F := F)) adm (pdats m) () cellOf_inj emb₁ defs₀ Variants.none L lv m ρ main
    (segs m (outsF m) Variants.none L lv (fun _ => R) () (pdats m) (reg0 m) (reg1 m))
    (fun c Q => by rw [main_segs m c])
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V22 m (outsF m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V22 m (outsF m) c b)
    (hfin := fun c s' => by
      iintro ⟨⟨Hh, -⟩, HSI⟩
      unfold StableHlo.held
      imodintro
      iapply (pointsTo_read_all (Pipeline.ucRefs τ sig) (fun b => (((c : Thread nD τ)).1, b)) (V22 m (outsF m) c) s')
      isplitl [Hh] <;> iassumption)
    (hQ := fun s h hz => ⟨h, funext fun g => hz g (.inr (regions_no_unscoped g.2))⟩)

/-- The frame: every run terminates, the arguments are as launched, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (V22_main_arg0 m (outsF m) c),
       (h.1 c _ (mem_uc main_arg1 (by decide))).trans (V22_main_arg1 m (outsF m) c),
       (h.1 c _ (mem_uc main_arg2 (by decide))).trans (V22_main_arg2 m (outsF m) c)⟩, h.2⟩) (run_ends m ρ)

/-- The run with its result: the result array is the histogram call's output, the arguments are as launched. -/
theorem run_result : θ_run defs (onTc (τ := τ) (main (F := F))) ⟨m, fun _ => 0, ρ⟩ (fun r => ∀ c : Dev nD,
      r.2.mem ((c.tc : Thread nD τ).loc main_v132) = histOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1 c _ (mem_uc main_v132 (by decide))).trans (V22_main_v132 m c),
       (h.1 c _ (mem_uc main_arg0 (by decide))).trans (V22_main_arg0 m (outsF m) c),
       (h.1 c _ (mem_uc main_arg1 (by decide))).trans (V22_main_arg1 m (outsF m) c),
       (h.1 c _ (mem_uc main_arg2 (by decide))).trans (V22_main_arg2 m (outsF m) c)⟩) (run_ends m ρ)

end Spectral.Ideal

end
-- ==== Proof.Ideal.SpecVal.lean ====
/- What one step of the spectrum call computes: eight channels' images through the row transform, the even and the odd
   half of the column transform by three products each, and the eight channels' magnitudes added up. -/
module

public import proofs.«01_k».proof.Proof.Ideal.SpecData
public import Idealize.ShloMosaic.Lib.Pipeline.Value
public import Idealize.ShloMosaic.Lib.Tactic
public import Idealize.ShloMosaic.Lib.Pointwise
public import Idealize.ShloMosaic.Lib.Pipeline.ValueKit.Acc

@[expose] public section

set_option maxRecDepth 16384

noncomputable section

namespace Spectral.Ideal

open Cert.KernelIdeal Cert.KernelIdeal.Gen Idealize.ShloMosaic Idealize.ShloMosaic.TcCoe Idealize.SL.Sem
open Idealize.ShloMosaic.Pipeline (Dat)

section Generic

variable {F : FTy → Type} [FloatOps F] [Named F]

/-- The eight channels' images of a block. -/
def chans (x0 : Vec F S1x8x384x384 .f32) : Fin 8 → Vec F S1x1x384x384 .f32 :=
  ![View.ld x0 (Rect.unit ![0, 0, 0, 0] ![1, 1, 384, 384] inb_S1x8x384x384_S1x1x384x384_0_0_0_0), View.ld x0 (Rect.unit ![0, 1, 0, 0] ![1, 1, 384, 384] inb_S1x8x384x384_S1x1x384x384_0_1_0_0), View.ld x0 (Rect.unit ![0, 2, 0, 0] ![1, 1, 384, 384] inb_S1x8x384x384_S1x1x384x384_0_2_0_0), View.ld x0 (Rect.unit ![0, 3, 0, 0] ![1, 1, 384, 384] inb_S1x8x384x384_S1x1x384x384_0_3_0_0), View.ld x0 (Rect.unit ![0, 4, 0, 0] ![1, 1, 384, 384] inb_S1x8x384x384_S1x1x384x384_0_4_0_0), View.ld x0 (Rect.unit ![0, 5, 0, 0] ![1, 1, 384, 384] inb_S1x8x384x384_S1x1x384x384_0_5_0_0), View.ld x0 (Rect.unit ![0, 6, 0, 0] ![1, 1, 384, 384] inb_S1x8x384x384_S1x1x384x384_0_6_0_0), View.ld x0 (Rect.unit ![0, 7, 0, 0] ![1, 1, 384, 384] inb_S1x8x384x384_S1x1x384x384_0_7_0_0)]

/-- Eight rectangles side by side. -/
def cat (f : Fin 8 → FVec F S192x256 .bf16) : FVec F S192x2048 .bf16 :=
  concatenate S192x2048 1 [⟨S192x256, f 0⟩, ⟨S192x256, f 1⟩, ⟨S192x256, f 2⟩, ⟨S192x256, f 3⟩, ⟨S192x256, f 4⟩, ⟨S192x256, f 5⟩, ⟨S192x256, f 6⟩, ⟨S192x256, f 7⟩] concatenates_S192x256_S192x256_S192x256_S192x256_S192x256_S192x256_S192x256_S192x256_S192x2048_d1

/-- The first product of the even half. -/
def even1 (x0 : Vec F S1x8x384x384 .f32) (x1 : Vec F S384x512 .bf16) (x2 : Vec F S192x192 .bf16) : FVec F S192x2048 .f32 :=
  matmul dot_S192x192_S192x2048_S192x2048_1_0_0_1_n_n none (shapeCast S192x192 x2 shapeCasts_S192x192_S192x192)
    (cat fun j => k0_pay5 (chans x0 j) x1) (constant S192x2048 .f32 0x00000000#32)

/-- The magnitudes of the even rows of the eight channels, side by side. -/
def mage (x0 : Vec F S1x8x384x384 .f32) (x1 : Vec F S384x512 .bf16) (x2 : Vec F S192x192 .bf16) (x3 : Vec F S192x192 .bf16) (x4 : Vec F S192x192 .bf16) : FVec F S192x2048 .f32 :=
  k0_pay64 (cat fun j => k0_pay6 (chans x0 j) x1) (cat fun j => k0_pay9 (chans x0 j) x1) (even1 x0 x1 x2) x3 x4

/-- The magnitudes of the odd rows of the eight channels, side by side. -/
def mago (x0 : Vec F S1x8x384x384 .f32) (x1 : Vec F S384x512 .bf16) (x5 : Vec F S192x192 .bf16) (x6 : Vec F S192x192 .bf16) (x7 : Vec F S192x192 .bf16) : FVec F S192x2048 .f32 :=
  k0_pay65 (cat fun j => k0_pay7 (chans x0 j) x1) (cat fun j => k0_pay8 (chans x0 j) x1)
    (cat fun j => k0_pay10 (chans x0 j) x1) x5 x6 x7

/-- The even rows' partial sum over the channels 0 to 4. -/
def parte (x0 : Vec F S1x8x384x384 .f32) (x1 : Vec F S384x512 .bf16) (x2 : Vec F S192x192 .bf16) (x3 : Vec F S192x192 .bf16) (x4 : Vec F S192x192 .bf16) : FVec F S192x256 .f32 :=
  k0_pay66 (cat fun j => k0_pay6 (chans x0 j) x1) (cat fun j => k0_pay9 (chans x0 j) x1) (even1 x0 x1 x2) x3 x4

/-- The odd rows' partial sum over the channels 0 to 4. -/
def parto (x0 : Vec F S1x8x384x384 .f32) (x1 : Vec F S384x512 .bf16) (x5 : Vec F S192x192 .bf16) (x6 : Vec F S192x192 .bf16) (x7 : Vec F S192x192 .bf16) : FVec F S192x256 .f32 :=
  k0_pay67 (cat fun j => k0_pay7 (chans x0 j) x1) (cat fun j => k0_pay8 (chans x0 j) x1)
    (cat fun j => k0_pay10 (chans x0 j) x1) x5 x6 x7

set_option maxHeartbeats 1000000 in
/-- The first step of a batch entry leaves the sum of its eight channels' magnitudes. -/
theorem out_A (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : cond0_0 i) (hc1 : ¬cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) :
    out0_A_8 c i arg2 harg2 arg3 harg3 arg4 harg4 arg5 harg5 arg6 harg6 arg7 harg7 arg8 harg8 arg9 harg9 arg10 harg10 hc0 hc1 x0 x1 x2 x3 x4 x5 x6 x7 =
      k0_pay2 (mage x0 x1 x2 x3 x4) (mago x0 x1 x5 x6 x7) (parte x0 x1 x2 x3 x4) (parto x0 x1 x5 x6 x7) := by
  frame_out
  rfl

set_option maxHeartbeats 1000000 in
/-- A later step adds the sum of its eight channels' magnitudes to what the step before left. -/
theorem out_B (c : Dev nD) (i : grid0.Coords) (arg2 : Memref sig .tc .vmem S1x8x384x384 .f32) (harg2 : arg2.IsWhole) (arg3 : Memref sig .tc .vmem S384x512 .bf16) (harg3 : arg3.IsWhole) (arg4 : Memref sig .tc .vmem S192x192 .bf16) (harg4 : arg4.IsWhole) (arg5 : Memref sig .tc .vmem S192x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S192x192 .bf16) (harg8 : arg8.IsWhole) (arg9 : Memref sig .tc .vmem S192x192 .bf16) (harg9 : arg9.IsWhole) (arg10 : Memref sig .tc .vmem S1x384x256 .f32) (harg10 : arg10.IsWhole) (hc0 : ¬cond0_0 i) (hc1 : cond0_1 i)
    (x0 : Vec F S1x8x384x384 .f32) (x1 : Vec F S384x512 .bf16) (x2 : Vec F S192x192 .bf16) (x3 : Vec F S192x192 .bf16) (x4 : Vec F S192x192 .bf16) (x5 : Vec F S192x192 .bf16) (x6 : Vec F S192x192 .bf16) (x7 : Vec F S192x192 .bf16) (xo8 : Vec F S1x384x256 .f32) :
    out0_B_8 c i arg2 harg2 arg3 harg3 arg4 harg4 arg5 harg5 arg6 harg6 arg7 harg7 arg8 harg8 arg9 harg9 arg10 harg10 hc0 hc1 x0 x1 x2 x3 x4 x5 x6 x7 xo8 =
      k0_pay3 (mage x0 x1 x2 x3 x4) (mago x0 x1 x5 x6 x7) (parte x0 x1 x2 x3 x4) (parto x0 x1 x5 x6 x7) xo8 := by
  frame_out
  rfl

end Generic

/-- One entry of an image's row transform: a row of the image against a column of the table. -/
def rowDot (x : FVec Ideal S1x8x384x384 .f32) (w : FVec Ideal S384x512 .bf16) (j : Fin 8) (n : Fin 384) (q : Fin 512) : EReal :=
  ∑ l : Fin 384, x (ix4 0 j n l) * w (ix2 l q)

/-- A complex product of a row of a table (real part `A`, imaginary part `B`, their sum `C`) and a complex vector
    (`u`, `v`) by three real products, and its magnitude. -/
def threeMag (A B C u v : Fin 192 → EReal) : EReal :=
  Ideal.sqrt (((∑ n, A n * u n) - ∑ n, B n * v n) * ((∑ n, A n * u n) - ∑ n, B n * v n)
    + ((∑ n, C n * (u n + v n)) - (∑ n, A n * u n) - ∑ n, B n * v n)
      * ((∑ n, C n * (u n + v n)) - (∑ n, A n * u n) - ∑ n, B n * v n))

/-- Column `256 j + k` of eight rectangles side by side is column `k` of rectangle `j`. -/
theorem cat_apply (f : Fin 8 → FVec Ideal S192x256 .bf16) (n : Fin 192) (j : Fin 8) (k : Fin 256) :
    cat f (ix2 n ⟨256 * j.val + k.val, by omega⟩) = f j (ix2 n k) := by
  have hk := k.isLt
  have h : ∀ p : Fin 2048, p.val = 256 * j.val + k.val → cat f (ix2 n p) = f j (ix2 n k) := by
    intro p hp
    unfold cat
    pointwise
    split_ifs <;>
      exact congr (congrArg f (Fin.ext (by simp; omega))) (congrArg (ix2 n) (Fin.ext (by simp; omega)))
  exact h _ rfl

/-- The row transform of channel `j`, rows and columns. -/
theorem rows_apply (x : FVec Ideal S1x8x384x384 .f32) (w : FVec Ideal S384x512 .bf16) (j : Fin 8) (n : Fin 384) (q : Fin 512) :
    k0_pay4 (F := Ideal) (chans x j) w (ix2 n q) = rowDot x w j n q := by
  fin_cases j <;> pointwise [k0_pay4, chans, rowDot]

/-- Row `n` of an image's upper half. -/
abbrev lo (n : Fin 192) : Fin 384 := ⟨n.val, by omega⟩
/-- Row `n` of an image's lower half. -/
abbrev hi (n : Fin 192) : Fin 384 := ⟨192 + n.val, by omega⟩
/-- Column `k` of the table's real part. -/
abbrev re (k : Fin 256) : Fin 512 := ⟨k.val, by omega⟩
/-- Column `k` of the table's imaginary part. -/
abbrev im (k : Fin 256) : Fin 512 := ⟨256 + k.val, by omega⟩

/-- The sum of the two halves, real part. -/
theorem sum_re (x : FVec Ideal S1x8x384x384 .f32) (w : FVec Ideal S384x512 .bf16) (j : Fin 8) (n : Fin 192) (k : Fin 256) :
    k0_pay5 (F := Ideal) (chans x j) w (ix2 n k) = rowDot x w j (lo n) (re k) + rowDot x w j (hi n) (re k) := by
  rw [← rows_apply, ← rows_apply]; pointwise [k0_pay5]

/-- The sum of the two halves, imaginary part. -/
theorem sum_im (x : FVec Ideal S1x8x384x384 .f32) (w : FVec Ideal S384x512 .bf16) (j : Fin 8) (n : Fin 192) (k : Fin 256) :
    k0_pay6 (F := Ideal) (chans x j) w (ix2 n k) = rowDot x w j (lo n) (im k) + rowDot x w j (hi n) (im k) := by
  rw [← rows_apply, ← rows_apply]; pointwise [k0_pay6]

/-- The difference of the two halves, real part. -/
theorem dif_re (x : FVec Ideal S1x8x384x384 .f32) (w : FVec Ideal S384x512 .bf16) (j : Fin 8) (n : Fin 192) (k : Fin 256) :
    k0_pay7 (F := Ideal) (chans x j) w (ix2 n k) = rowDot x w j (lo n) (re k) - rowDot x w j (hi n) (re k) := by
  rw [← rows_apply, ← rows_apply]; pointwise [k0_pay7]

/-- The difference of the two halves, imaginary part. -/
theorem dif_im (x : FVec Ideal S1x8x384x384 .f32) (w : FVec Ideal S384x512 .bf16) (j : Fin 8) (n : Fin 192) (k : Fin 256) :
    k0_pay8 (F := Ideal) (chans x j) w (ix2 n k) = rowDot x w j (lo n) (im k) - rowDot x w j (hi n) (im k) := by
  rw [← rows_apply, ← rows_apply]; pointwise [k0_pay8]

/-- Channel `j`'s even magnitudes. -/
theorem mage_apply (x0 : FVec Ideal S1x8x384x384 .f32) (x1 : FVec Ideal S384x512 .bf16) (x2 x3 x4 : FVec Ideal S192x192 .bf16)
    (m : Fin 192) (j : Fin 8) (k : Fin 256) :
    mage (F := Ideal) x0 x1 x2 x3 x4 (ix2 m ⟨256 * j.val + k.val, by omega⟩) =
      threeMag (fun n => x2 (ix2 m n)) (fun n => x3 (ix2 m n)) (fun n => x4 (ix2 m n))
        (fun n => rowDot x0 x1 j (lo n) (re k) + rowDot x0 x1 j (hi n) (re k))
        (fun n => rowDot x0 x1 j (lo n) (im k) + rowDot x0 x1 j (hi n) (im k)) := by
  unfold mage even1
  pointwise [k0_pay64]
  simp only [cat_apply, k0_pay9, addf_apply, Ideal.addf_def, sum_re, sum_im]
  rfl

/-- Channel `j`'s odd magnitudes. -/
theorem mago_apply (x0 : FVec Ideal S1x8x384x384 .f32) (x1 : FVec Ideal S384x512 .bf16) (x5 x6 x7 : FVec Ideal S192x192 .bf16)
    (m : Fin 192) (j : Fin 8) (k : Fin 256) :
    mago (F := Ideal) x0 x1 x5 x6 x7 (ix2 m ⟨256 * j.val + k.val, by omega⟩) =
      threeMag (fun n => x5 (ix2 m n)) (fun n => x6 (ix2 m n)) (fun n => x7 (ix2 m n))
        (fun n => rowDot x0 x1 j (lo n) (re k) - rowDot x0 x1 j (hi n) (re k))
        (fun n => rowDot x0 x1 j (lo n) (im k) - rowDot x0 x1 j (hi n) (im k)) := by
  unfold mago
  pointwise [k0_pay65]
  simp only [cat_apply, k0_pay10, addf_apply, Ideal.addf_def, dif_re, dif_im]
  rfl

/-- The eight channels' magnitudes at an entry of the result: an even row in the upper half, an odd row in the lower. -/
def stepSum (x0 : FVec Ideal S1x8x384x384 .f32) (x1 : FVec Ideal S384x512 .bf16) (x2 x3 x4 x5 x6 x7 : FVec Ideal S192x192 .bf16)
    (r : Fin 384) (k : Fin 256) : EReal :=
  ∑ j : Fin 8, if h : r.val < 192 then
      threeMag (fun n => x2 (ix2 ⟨r.val, h⟩ n)) (fun n => x3 (ix2 ⟨r.val, h⟩ n)) (fun n => x4 (ix2 ⟨r.val, h⟩ n))
        (fun n => rowDot x0 x1 j (lo n) (re k) + rowDot x0 x1 j (hi n) (re k))
        (fun n => rowDot x0 x1 j (lo n) (im k) + rowDot x0 x1 j (hi n) (im k))
    else
      threeMag (fun n => x5 (ix2 ⟨r.val - 192, by omega⟩ n)) (fun n => x6 (ix2 ⟨r.val - 192, by omega⟩ n))
        (fun n => x7 (ix2 ⟨r.val - 192, by omega⟩ n))
        (fun n => rowDot x0 x1 j (lo n) (re k) - rowDot x0 x1 j (hi n) (re k))
        (fun n => rowDot x0 x1 j (lo n) (im k) - rowDot x0 x1 j (hi n) (im k))

/-- The sum that one step forms. -/
theorem step_apply (x0 : FVec Ideal S1x8x384x384 .f32) (x1 : FVec Ideal S384x512 .bf16) (x2 x3 x4 x5 x6 x7 : FVec Ideal S192x192 .bf16)
    (r : Fin 384) (k : Fin 256) :
    k0_pay1 (F := Ideal) (mage x0 x1 x2 x3 x4) (mago x0 x1 x5 x6 x7) (parte x0 x1 x2 x3 x4) (parto x0 x1 x5 x6 x7) (ix2 r k) =
      stepSum x0 x1 x2 x3 x4 x5 x6 x7 r k := by
  unfold parte parto stepSum k0_pay66 k0_pay67
  change k0_pay1 (F := Ideal) (mage x0 x1 x2 x3 x4) (mago x0 x1 x5 x6 x7) _ _ _ = _
  pointwise [k0_pay1]
  split
  · rename_i h
    rw [Finset.sum_congr rfl fun j _ => (mage_apply x0 x1 x2 x3 x4 ⟨r.val, h⟩ j k).symm, Fin.sum_univ_eight]
    simp only [Fin.isValue, Fin.coe_ofNat_eq_mod, Nat.reduceMod, Nat.reduceMul, Nat.zero_add, Nat.mul_zero, Nat.mul_one]
    rfl
  · rename_i h
    rw [Finset.sum_congr rfl fun j _ => (mago_apply x0 x1 x5 x6 x7 ⟨r.val - 192, by omega⟩ j k).symm, Fin.sum_univ_eight]
    simp only [Fin.isValue, Fin.coe_ofNat_eq_mod, Nat.reduceMod, Nat.reduceMul, Nat.zero_add, Nat.mul_zero, Nat.mul_one]
    rfl

/-- The first step's result at an entry. -/
theorem first_apply (x0 : FVec Ideal S1x8x384x384 .f32) (x1 : FVec Ideal S384x512 .bf16) (x2 x3 x4 x5 x6 x7 : FVec Ideal S192x192 .bf16)
    (r : Fin 384) (k : Fin 256) :
    k0_pay2 (F := Ideal) (mage x0 x1 x2 x3 x4) (mago x0 x1 x5 x6 x7) (parte x0 x1 x2 x3 x4) (parto x0 x1 x5 x6 x7) (ix3 0 r k) =
      stepSum x0 x1 x2 x3 x4 x5 x6 x7 r k := by
  rw [← step_apply]; pointwise [k0_pay2]

/-- A later step's result at an entry. -/
theorem later_apply (x0 : FVec Ideal S1x8x384x384 .f32) (x1 : FVec Ideal S384x512 .bf16) (x2 x3 x4 x5 x6 x7 : FVec Ideal S192x192 .bf16)
    (xo : FVec Ideal S1x384x256 .f32) (r : Fin 384) (k : Fin 256) :
    k0_pay3 (F := Ideal) (mage x0 x1 x2 x3 x4) (mago x0 x1 x5 x6 x7) (parte x0 x1 x2 x3 x4) (parto x0 x1 x5 x6 x7) xo (ix3 0 r k) =
      xo (ix3 0 r k) + stepSum x0 x1 x2 x3 x4 x5 x6 x7 r k := by
  rw [← step_apply]; pointwise [k0_pay3]

end Spectral.Ideal

end
-- ==== Proof.Ideal.SpecArr.lean ====
/- What the spectrum call leaves in its array: at batch b, row r and column k, the sum over the ninety-six channels of the
   magnitude that one channel's image has there. -/
module

public import proofs.«01_k».proof.Proof.Ideal.Run
public import proofs.«01_k».proof.Proof.Ideal.SpecVal
public import Idealize.ShloMosaic.Lib.Pipeline.ValueKit

@[expose] public section

set_option maxRecDepth 16384

noncomputable section

namespace Spectral.Ideal

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row n of channel ch of image b times column q of the row transform's matrix. -/
def rowDotAt (X : FVec Ideal S8x96x384x384 .f32) (w : FVec Ideal S384x512 .bf16) (b : Fin 8) (ch : Fin 96) (n : Fin 384) (q : Fin 512) : EReal :=
  ∑ l : Fin 384, X (ix4 b ch n l) * w (ix2 l q)

/-- The magnitude of channel ch of image b at row r and column k of the spectrum call's array. -/
def chanMag (X : FVec Ideal S8x96x384x384 .f32) (x1 : FVec Ideal S384x512 .bf16) (x2 x3 x4 x5 x6 x7 : FVec Ideal S192x192 .bf16)
    (b : Fin 8) (ch : Fin 96) (r : Fin 384) (k : Fin 256) : EReal :=
  if h : r.val < 192 then
    threeMag (fun n => x2 (ix2 ⟨r.val, h⟩ n)) (fun n => x3 (ix2 ⟨r.val, h⟩ n)) (fun n => x4 (ix2 ⟨r.val, h⟩ n))
      (fun n => rowDotAt X x1 b ch (lo n) (re k) + rowDotAt X x1 b ch (hi n) (re k))
      (fun n => rowDotAt X x1 b ch (lo n) (im k) + rowDotAt X x1 b ch (hi n) (im k))
  else
    threeMag (fun n => x5 (ix2 ⟨r.val - 192, by omega⟩ n)) (fun n => x6 (ix2 ⟨r.val - 192, by omega⟩ n))
      (fun n => x7 (ix2 ⟨r.val - 192, by omega⟩ n))
      (fun n => rowDotAt X x1 b ch (lo n) (re k) - rowDotAt X x1 b ch (hi n) (re k))
      (fun n => rowDotAt X x1 b ch (lo n) (im k) - rowDotAt X x1 b ch (hi n) (im k))

/-- Where the images' block is at each grid point. -/
theorem spec_index0 : ∀ t : Fin cfg0.N, win0_0.index t (0 : Fin 4) = t.val / 12 ∧ win0_0.index t (1 : Fin 4) = t.val % 12 ∧
    win0_0.index t (2 : Fin 4) = 0 ∧ win0_0.index t (3 : Fin 4) = 0 :=
  (by decide +kernel : ∀ t : Fin grid0.N, _)

/-- Where the result's block is at each grid point. -/
theorem spec_index8 : ∀ t : Fin cfg0.N, win0_8.index t (0 : Fin 3) = t.val / 12 ∧ win0_8.index t (1 : Fin 3) = 0 ∧
    win0_8.index t (2 : Fin 3) = 0 :=
  (by decide +kernel : ∀ t : Fin grid0.N, _)

/-- The image that a grid point works on. -/
def ptImage (t : Fin cfg0.N) : Fin 8 := ⟨t.val / 12, by have h : t.val < 96 := Nat.lt_of_lt_of_eq t.isLt N_0; omega⟩

/-- The channel that lane j of a grid point's block holds. -/
def ptChan (t : Fin cfg0.N) (j : Fin 8) : Fin 96 := ⟨8 * (t.val % 12) + j.val, by omega⟩

/-- The images' block at a grid point, at an entry. -/
theorem spec_block0 (c : Dev nD) (t : Fin cfg0.N) (j : Fin 8) (n l : Fin 384) :
    iblk0 V c 0 t (ix4 (0 : Fin 1) j n l : S1x8x384x384.Idx) = V c main_arg0 (ix4 (ptImage t) (ptChan t j) n l) := by
  obtain ⟨e0, e1, e2, e3⟩ := spec_index0 t
  show V c main_arg0 (((cfg0.win 0).blk t).view.emb (ix4 (0 : Fin 1) j n l : S1x8x384x384.Idx)) = _
  congr 1
  funext a; apply Fin.ext
  match a with
  | ⟨0, _⟩ => show win0_0.index t (0 : Fin 4) * 1 + 1 * 0 = t.val / 12; omega
  | ⟨1, _⟩ => show win0_0.index t (1 : Fin 4) * 8 + 1 * j.val = 8 * (t.val % 12) + j.val; omega
  | ⟨2, _⟩ => show win0_0.index t (2 : Fin 4) * 384 + 1 * n.val = n.val; omega
  | ⟨3, _⟩ => show win0_0.index t (3 : Fin 4) * 384 + 1 * l.val = l.val; omega

/-- The block of operand 1 is its array, at every grid point. -/
theorem spec_block1 (c : Dev nD) (t : Fin cfg0.N) : iblk0 V c 1 t = V c main_v68 := by
  have e : ∀ t : Fin cfg0.N, win0_1.index t (0 : Fin 2) = 0 ∧ win0_1.index t (1 : Fin 2) = 0 :=
    (by decide +kernel : ∀ t : Fin grid0.N, _)
  obtain ⟨e0, e1⟩ := e t
  funext j; show V c main_v68 (((cfg0.win 1).blk t).view.emb j) = V c main_v68 j
  congr 1
  funext a; apply Fin.ext
  match a with
  | ⟨0, _⟩ => show win0_1.index t (0 : Fin 2) * 384 + 1 * (j 0).val = (j 0).val; omega
  | ⟨1, _⟩ => show win0_1.index t (1 : Fin 2) * 512 + 1 * (j 1).val = (j 1).val; omega

/-- The block of operand 2 is its array, at every grid point. -/
theorem spec_block2 (c : Dev nD) (t : Fin cfg0.N) : iblk0 V c 2 t = V c main_v69 := by
  have e : ∀ t : Fin cfg0.N, win0_2.index t (0 : Fin 2) = 0 ∧ win0_2.index t (1 : Fin 2) = 0 :=
    (by decide +kernel : ∀ t : Fin grid0.N, _)
  obtain ⟨e0, e1⟩ := e t
  funext j; show V c main_v69 (((cfg0.win 2).blk t).view.emb j) = V c main_v69 j
  congr 1
  funext a; apply Fin.ext
  match a with
  | ⟨0, _⟩ => show win0_2.index t (0 : Fin 2) * 192 + 1 * (j 0).val = (j 0).val; omega
  | ⟨1, _⟩ => show win0_2.index t (1 : Fin 2) * 192 + 1 * (j 1).val = (j 1).val; omega

/-- The block of operand 3 is its array, at every grid point. -/
theorem spec_block3 (c : Dev nD) (t : Fin cfg0.N) : iblk0 V c 3 t = V c main_v70 := by
  have e : ∀ t : Fin cfg0.N, win0_3.index t (0 : Fin 2) = 0 ∧ win0_3.index t (1 : Fin 2) = 0 :=
    (by decide +kernel : ∀ t : Fin grid0.N, _)
  obtain ⟨e0, e1⟩ := e t
  funext j; show V c main_v70 (((cfg0.win 3).blk t).view.emb j) = V c main_v70 j
  congr 1
  funext a; apply Fin.ext
  match a with
  | ⟨0, _⟩ => show win0_3.index t (0 : Fin 2) * 192 + 1 * (j 0).val = (j 0).val; omega
  | ⟨1, _⟩ => show win0_3.index t (1 : Fin 2) * 192 + 1 * (j 1).val = (j 1).val; omega

/-- The block of operand 4 is its array, at every grid point. -/
theorem spec_block4 (c : Dev nD) (t : Fin cfg0.N) : iblk0 V c 4 t = V c main_v71 := by
  have e : ∀ t : Fin cfg0.N, win0_4.index t (0 : Fin 2) = 0 ∧ win0_4.index t (1 : Fin 2) = 0 :=
    (by decide +kernel : ∀ t : Fin grid0.N, _)
  obtain ⟨e0, e1⟩ := e t
  funext j; show V c main_v71 (((cfg0.win 4).blk t).view.emb j) = V c main_v71 j
  congr 1
  funext a; apply Fin.ext
  match a with
  | ⟨0, _⟩ => show win0_4.index t (0 : Fin 2) * 192 + 1 * (j 0).val = (j 0).val; omega
  | ⟨1, _⟩ => show win0_4.index t (1 : Fin 2) * 192 + 1 * (j 1).val = (j 1).val; omega

/-- The block of operand 5 is its array, at every grid point. -/
theorem spec_block5 (c : Dev nD) (t : Fin cfg0.N) : iblk0 V c 5 t = V c main_v72 := by
  have e : ∀ t : Fin cfg0.N, win0_5.index t (0 : Fin 2) = 0 ∧ win0_5.index t (1 : Fin 2) = 0 :=
    (by decide +kernel : ∀ t : Fin grid0.N, _)
  obtain ⟨e0, e1⟩ := e t
  funext j; show V c main_v72 (((cfg0.win 5).blk t).view.emb j) = V c main_v72 j
  congr 1
  funext a; apply Fin.ext
  match a with
  | ⟨0, _⟩ => show win0_5.index t (0 : Fin 2) * 192 + 1 * (j 0).val = (j 0).val; omega
  | ⟨1, _⟩ => show win0_5.index t (1 : Fin 2) * 192 + 1 * (j 1).val = (j 1).val; omega

/-- The block of operand 6 is its array, at every grid point. -/
theorem spec_block6 (c : Dev nD) (t : Fin cfg0.N) : iblk0 V c 6 t = V c main_v73 := by
  have e : ∀ t : Fin cfg0.N, win0_6.index t (0 : Fin 2) = 0 ∧ win0_6.index t (1 : Fin 2) = 0 :=
    (by decide +kernel : ∀ t : Fin grid0.N, _)
  obtain ⟨e0, e1⟩ := e t
  funext j; show V c main_v73 (((cfg0.win 6).blk t).view.emb j) = V c main_v73 j
  congr 1
  funext a; apply Fin.ext
  match a with
  | ⟨0, _⟩ => show win0_6.index t (0 : Fin 2) * 192 + 1 * (j 0).val = (j 0).val; omega
  | ⟨1, _⟩ => show win0_6.index t (1 : Fin 2) * 192 + 1 * (j 1).val = (j 1).val; omega

/-- The block of operand 7 is its array, at every grid point. -/
theorem spec_block7 (c : Dev nD) (t : Fin cfg0.N) : iblk0 V c 7 t = V c main_v74 := by
  have e : ∀ t : Fin cfg0.N, win0_7.index t (0 : Fin 2) = 0 ∧ win0_7.index t (1 : Fin 2) = 0 :=
    (by decide +kernel : ∀ t : Fin grid0.N, _)
  obtain ⟨e0, e1⟩ := e t
  funext j; show V c main_v74 (((cfg0.win 7).blk t).view.emb j) = V c main_v74 j
  congr 1
  funext a; apply Fin.ext
  match a with
  | ⟨0, _⟩ => show win0_7.index t (0 : Fin 2) * 192 + 1 * (j 0).val = (j 0).val; omega
  | ⟨1, _⟩ => show win0_7.index t (1 : Fin 2) * 192 + 1 * (j 1).val = (j 1).val; omega

/-- What a grid point adds at an entry: the magnitudes of its eight channels. -/
theorem point_sum (c : Dev nD) (t : Fin cfg0.N) (r : Fin 384) (k : Fin 256) :
    stepSum (iblk0 V c 0 t) (iblk0 V c 1 t) (iblk0 V c 2 t) (iblk0 V c 3 t) (iblk0 V c 4 t) (iblk0 V c 5 t) (iblk0 V c 6 t) (iblk0 V c 7 t) r k =
      ∑ j : Fin 8, chanMag (V c main_arg0) (V c main_v68) (V c main_v69) (V c main_v70) (V c main_v71) (V c main_v72) (V c main_v73) (V c main_v74) (ptImage t) (ptChan t j) r k := by
  rw [spec_block1, spec_block2, spec_block3, spec_block4, spec_block5, spec_block6, spec_block7]
  have hrow : ∀ j n q, rowDot (iblk0 V c 0 t) (V c main_v68) j n q = rowDotAt (V c main_arg0) (V c main_v68) (ptImage t) (ptChan t j) n q :=
    fun j n q => Finset.sum_congr rfl fun l _ => congrArg (· * _) (spec_block0 V c t j n l)
  unfold stepSum chanMag
  simp only [hrow]

/-- What grid point n adds, for any number n. -/
def pointTerm (c : Dev nD) (n : Nat) (i : Fin 384 × Fin 256) : EReal :=
  if h : n < cfg0.N then
    ∑ j : Fin 8, chanMag (V c main_arg0) (V c main_v68) (V c main_v69) (V c main_v70) (V c main_v71) (V c main_v72) (V c main_v73) (V c main_v74) (ptImage ⟨n, h⟩) (ptChan ⟨n, h⟩ j) i.1 i.2
  else 0

/-- The result's block after the last grid point of an image: the sum of the image's twelve steps. -/
theorem block_sum (c : Dev nD) (t : Fin cfg0.N) (ht : t.val % 12 = 11) (i : Fin 384 × Fin 256) :
    (outsAt0 V c t.val t.isLt (ix3 (0 : Fin 1) i.1 i.2 : S1x384x256.Idx) : EReal) =
      0 + ∑ s ∈ Finset.range 12, pointTerm V c (12 * (t.val / 12) + s) i := by
  refine Pipeline.eq_sum_of_reset_step_apply_of_mod
    (fun n hn (i : Fin 384 × Fin 256) => (outsAt0 V c n hn (ix3 (0 : Fin 1) i.1 i.2 : S1x384x256.Idx) : EReal)) 12
    (fun _ => 0) (pointTerm V c) (fun t h0 i => ?_) (fun t h0 i => ?_) t ht i
  · show outsAt0 V c t.val t.isLt _ = _
    rw [outsAt0_A V c t h0 (by omega), out_A, pointTerm, dif_pos t.isLt, ← point_sum]
    exact (first_apply _ _ _ _ _ _ _ _ _ _).trans (zero_add _).symm
  · show outsAt0 V c t.val t.isLt _ = _
    rw [outsAt0_B V c t h0 (by omega), out_B, pointTerm, dif_pos t.isLt, ← point_sum]
    exact later_apply _ _ _ _ _ _ _ _ _ _ _

/-- The spectrum array at an entry. -/
def specVal (c : Dev nD) (b : Fin 8) (r : Fin 384) (k : Fin 256) : EReal :=
  ∑ ch : Fin 96, chanMag (V c main_arg0) (V c main_v68) (V c main_v69) (V c main_v70) (V c main_v71) (V c main_v72) (V c main_v73) (V c main_v74) b ch r k

/-- The twelve steps of an image add up its ninety-six channels. -/
theorem steps_eq (c : Dev nD) (t : Fin cfg0.N) (i : Fin 384 × Fin 256) :
    0 + ∑ s ∈ Finset.range 12, pointTerm V c (12 * (t.val / 12) + s) i = specVal V c (ptImage t) i.1 i.2 := by
  have htl : t.val < 96 := Nat.lt_of_lt_of_eq t.isLt N_0
  rw [zero_add, Finset.sum_range, specVal]
  rw [← (finProdFinEquiv (m := 12) (n := 8)).sum_comp (fun ch : Fin (12 * 8) => chanMag (V c main_arg0) (V c main_v68) (V c main_v69) (V c main_v70) (V c main_v71) (V c main_v72) (V c main_v73) (V c main_v74) (ptImage t) ch i.1 i.2),
    Fintype.sum_prod_type]
  refine Finset.sum_congr rfl fun s _ => ?_
  have hs : 12 * (t.val / 12) + s.val < cfg0.N := Nat.lt_of_lt_of_eq (by omega : _ < 96) N_0.symm
  rw [pointTerm, dif_pos hs]
  refine Finset.sum_congr rfl fun j _ => ?_
  congr 1
  · exact Fin.ext (by show (12 * (t.val / 12) + s.val) / 12 = t.val / 12; omega)
  · exact Fin.ext (by show 8 * ((12 * (t.val / 12) + s.val) % 12) + j.val = j.val + 8 * s.val; omega)

/-- The spectrum array after the call: at every entry the sum over the channels of the magnitudes. -/
theorem spec_array (c : Dev nD) :
    (dat0 V c).arrAt 8 cfg0.N = (fun i : S8x384x256.Idx => (specVal V c (i 0) (i 1) (i 2) : EReal)) := by
  refine (dat0 V c).arrAt_eq_of_covers 8 _ (by decide +kernel) fun t hf y => ?_
  obtain ⟨e0, e1, e2⟩ := spec_index8 t
  have ht := (flush0_8 t).mp hf
  have hemb : ((cfg0.win 8).blk t).view.emb y = (ix3 (ptImage t) (y 1) (y 2) : S8x384x256.Idx) := by
    funext a; apply Fin.ext
    match a with
    | ⟨0, _⟩ =>
      have : (y 0).val < 1 := (y 0).isLt
      show win0_8.index t (0 : Fin 3) * 1 + 1 * (y 0).val = t.val / 12; omega
    | ⟨1, _⟩ => show win0_8.index t (1 : Fin 3) * 384 + 1 * (y 1).val = (y 1).val; omega
    | ⟨2, _⟩ => show win0_8.index t (2 : Fin 3) * 256 + 1 * (y 2).val = (y 2).val; omega
  have hy : y = (ix3 (0 : Fin 1) (y 1) (y 2) : S1x384x256.Idx) := by
    funext a; apply Fin.ext
    match a with
    | ⟨0, _⟩ =>
      have : (y 0).val < 1 := (y 0).isLt
      show (y 0).val = 0; omega
    | ⟨1, _⟩ => rfl
    | ⟨2, _⟩ => rfl
  rw [hemb]
  show (dat0 V c).after 8 t y = _
  rw [after0_8]
  refine (congrArg _ hy).trans ?_
  exact (block_sum V c t ht (y 1, y 2)).trans (steps_eq V c t (y 1, y 2))

end Spectral.Ideal

end
-- ==== Proof.Consts.lean ====
/- The constants that the programs spell as words, and the whole numbers that they compute in words, as real numbers. -/
module

public import Idealize.ShloMosaic.Lib.Pointwise
public import Idealize.ShloMosaic.Lib.Tactic
public import Idealize.ShloMosaic.Lib.Affine

@[expose] public section

noncomputable section

namespace Spectral

open Idealize.ShloMosaic Idealize.SL.Sem

theorem lit_384 : Ideal.ofBits .f32 0x43C00000#32 = ((384 : ℝ) : EReal) := by simp [Ideal.ofBits, Ideal.ieee, -EReal.coe_mul]; norm_num
theorem lit_192 : Ideal.ofBits .f32 0x43400000#32 = ((192 : ℝ) : EReal) := by simp [Ideal.ofBits, Ideal.ieee, -EReal.coe_mul]; norm_num
theorem lit_96 : Ideal.ofBits .f32 0x42C00000#32 = ((96 : ℝ) : EReal) := by simp [Ideal.ofBits, Ideal.ieee, -EReal.coe_mul]; norm_num
theorem lit_147456 : Ideal.ofBits .f32 0x48100000#32 = ((147456 : ℝ) : EReal) := by simp [Ideal.ofBits, Ideal.ieee, -EReal.coe_mul]; norm_num
theorem lit_2 : Ideal.ofBits .f32 0x40000000#32 = ((2 : ℝ) : EReal) := by simp [Ideal.ofBits, Ideal.ieee, -EReal.coe_mul]; norm_num
theorem lit_m2 : Ideal.ofBits .f32 0xC0000000#32 = ((-2 : ℝ) : EReal) := by simp [Ideal.ofBits, Ideal.ieee, -EReal.coe_mul]; norm_num
theorem lit_m1 : Ideal.ofBits .f32 0xBF800000#32 = ((-1 : ℝ) : EReal) := by simp [Ideal.ofBits, Ideal.ieee, -EReal.coe_mul]; norm_num

/-- The angle of the point (−1, 0) is π. -/
theorem atan2_pi : Ideal.atan2 0 (Ideal.ofBits .f32 0xBF800000#32) = ((Real.pi : ℝ) : EReal) := by
  rw [lit_m1]
  show ((if 0 < (-1 : ℝ) then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) = _
  norm_num

/-- Minus a whole turn. -/
theorem minus_turn : Ideal.ofBits .f32 0xC0000000#32 * Ideal.atan2 0 (Ideal.ofBits .f32 0xBF800000#32) = ((-2 * Real.pi : ℝ) : EReal) := by
  rw [atan2_pi, lit_m2, ← EReal.coe_mul]

/-- A whole turn. -/
theorem whole_turn : Ideal.ofBits .f32 0x40000000#32 * Ideal.atan2 0 (Ideal.ofBits .f32 0xBF800000#32) = ((2 * Real.pi : ℝ) : EReal) := by
  rw [atan2_pi, lit_2, ← EReal.coe_mul]

/-- A division of reals whose divisor is not zero. -/
theorem div_real (x y : ℝ) (h : y ≠ 0) : Ideal.div (x : EReal) (y : EReal) = ((x / y : ℝ) : EReal) := by
  rw [Ideal.div_coe h, ← EReal.coe_mul, mul_one_div]

/-- A square root of a real that is not negative. -/
theorem sqrt_real (x : ℝ) (h : 0 ≤ x) : Ideal.sqrt (x : EReal) = ((√x : ℝ) : EReal) := by
  rw [Ideal.sqrt_coe, if_neg (not_lt.mpr h)]

/-- A sum of reals. -/
theorem coe_sum {ι : Type} (s : Finset ι) (f : ι → ℝ) : ∑ i ∈ s, ((f i : ℝ) : EReal) = ((∑ i ∈ s, f i : ℝ) : EReal) :=
  (map_sum (⟨⟨fun x : ℝ => (x : EReal), rfl⟩, fun x y => EReal.coe_add x y⟩ : ℝ →+ EReal) f s).symm

/-- The word of a whole number, read signed. -/
theorem toInt_word (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- A whole number's word as a float. -/
theorem float_word (n : ℕ) (h : n < 2 ^ 31) : FloatOps.sitofp (F := Ideal) FTy.f32 (BitVec.ofNat 32 n) = (((n : ℕ) : ℝ) : EReal) := by
  show (((BitVec.ofNat 32 n).toInt : ℝ) : EReal) = _
  rw [toInt_word n h]; norm_cast

/-- The product of two whole numbers' words. -/
theorem mul_word (a b : ℕ) : IntOp.muli (BitVec.ofNat 32 a) (BitVec.ofNat 32 b) = BitVec.ofNat 32 (a * b) := by
  show BitVec.ofNat 32 a * BitVec.ofNat 32 b = _
  rw [← BitVec.ofNat_mul]

/-- The remainder of a whole number's word. -/
theorem rem_word (a N : ℕ) (ha : a < 2 ^ 31) (hN : 0 < N) (hN' : N < 2 ^ 31) :
    IntOp.remsi .host (BitVec.ofNat 32 a) (BitVec.ofNat 32 N) = BitVec.ofNat 32 (a % N) := by
  have hx : (BitVec.ofNat 32 a).toNat = a := by rw [BitVec.toNat_ofNat, Nat.mod_eq_of_lt (by omega)]
  apply BitVec.eq_of_toNat_eq
  have := IntOp.toNat_remsi .host (x := BitVec.ofNat 32 a) (by rw [hx]; omega) N hN (by omega)
  rw [this, hx, BitVec.toNat_ofNat, Nat.mod_eq_of_lt (a := a % N) (b := 2 ^ 32)]
  have := Nat.mod_lt a hN; omega

end Spectral

end
-- ==== Proof.Math.lean ====
/- The mathematics behind the kernel's transform, over the real numbers: a row transform followed by a column transform
   split into even and odd rows of half the length computes the two-dimensional discrete Fourier transform. -/
module

public import Mathlib.Analysis.SpecialFunctions.Trigonometric.Basic
public import Mathlib.Algebra.BigOperators.Fin
public import Mathlib.Algebra.BigOperators.Field

@[expose] public section

noncomputable section

namespace Spectral.Math

open Real

/-- The angle of the j-th power of the 384-th root of unity. -/
def ang (j : ℕ) : ℝ := -2 * π * (j : ℝ) / 384

/-- Reducing a multiple modulo the period leaves the cosine. -/
theorem cos_mod (N j : ℕ) (hN : 0 < N) : cos (-2 * π * ((j % N : ℕ) : ℝ) / N) = cos (-2 * π * (j : ℝ) / N) := by
  have hN' : (N : ℝ) ≠ 0 := by exact_mod_cast hN.ne'
  have h : (j : ℝ) = ((j % N : ℕ) : ℝ) + N * ((j / N : ℕ) : ℝ) := by exact_mod_cast (Nat.mod_add_div j N).symm
  have e : -2 * π * (j : ℝ) / N = -2 * π * ((j % N : ℕ) : ℝ) / N - ((j / N : ℕ) : ℝ) * (2 * π) := by
    rw [h]; field_simp; ring
  rw [e, cos_sub_nat_mul_two_pi]

/-- Reducing a multiple modulo the period leaves the sine. -/
theorem sin_mod (N j : ℕ) (hN : 0 < N) : sin (-2 * π * ((j % N : ℕ) : ℝ) / N) = sin (-2 * π * (j : ℝ) / N) := by
  have hN' : (N : ℝ) ≠ 0 := by exact_mod_cast hN.ne'
  have h : (j : ℝ) = ((j % N : ℕ) : ℝ) + N * ((j / N : ℕ) : ℝ) := by exact_mod_cast (Nat.mod_add_div j N).symm
  have e : -2 * π * (j : ℝ) / N = -2 * π * ((j % N : ℕ) : ℝ) / N - ((j / N : ℕ) : ℝ) * (2 * π) := by
    rw [h]; field_simp; ring
  rw [e, sin_sub_nat_mul_two_pi]

/-- The row transform's cosine table, scaled. -/
def wRe (l k : ℕ) : ℝ := cos (-2 * π * ((l * k % 384 : ℕ) : ℝ) / 384) / 384
/-- The row transform's sine table, scaled. -/
def wIm (l k : ℕ) : ℝ := sin (-2 * π * ((l * k % 384 : ℕ) : ℝ) / 384) / 384
/-- The half-length column transform's cosine table. -/
def fRe (m n : ℕ) : ℝ := cos (-2 * π * ((m * n % 192 : ℕ) : ℝ) / 192)
/-- The half-length column transform's sine table. -/
def fIm (m n : ℕ) : ℝ := sin (-2 * π * ((m * n % 192 : ℕ) : ℝ) / 192)
/-- The odd rows' cosine table: the half-length table turned by the column's angle. -/
def gRe (m n : ℕ) : ℝ := fRe m n * cos (ang n) - fIm m n * sin (ang n)
/-- The odd rows' sine table. -/
def gIm (m n : ℕ) : ℝ := fRe m n * sin (ang n) + fIm m n * cos (ang n)

/-- The scaled cosine table without the reduction. -/
theorem wRe_eq (l k : ℕ) : wRe l k = cos (ang (l * k)) / 384 := by
  have := cos_mod 384 (l * k) (by norm_num)
  push_cast at this
  rw [wRe, ang]; push_cast; rw [this]

/-- The scaled sine table without the reduction. -/
theorem wIm_eq (l k : ℕ) : wIm l k = sin (ang (l * k)) / 384 := by
  have := sin_mod 384 (l * k) (by norm_num)
  push_cast at this
  rw [wIm, ang]; push_cast; rw [this]

/-- The half-length cosine table holds the full-length angles of the even rows. -/
theorem fRe_eq (m n : ℕ) : fRe m n = cos (ang (n * (2 * m))) := by
  have := cos_mod 192 (m * n) (by norm_num)
  push_cast at this
  rw [fRe, this, ang]; push_cast; congr 1; ring

/-- The half-length sine table holds the full-length angles of the even rows. -/
theorem fIm_eq (m n : ℕ) : fIm m n = sin (ang (n * (2 * m))) := by
  have := sin_mod 192 (m * n) (by norm_num)
  push_cast at this
  rw [fIm, this, ang]; push_cast; congr 1; ring

/-- The angle of an odd row is the even row's and the column's. -/
theorem ang_odd (m n : ℕ) : ang (n * (2 * m + 1)) = ang (n * (2 * m)) + ang n := by
  simp only [ang]; push_cast; ring

/-- The turned cosine table holds the full-length angles of the odd rows. -/
theorem gRe_eq (m n : ℕ) : gRe m n = cos (ang (n * (2 * m + 1))) := by
  rw [gRe, fRe_eq, fIm_eq, ang_odd, cos_add]

/-- The turned sine table holds the full-length angles of the odd rows. -/
theorem gIm_eq (m n : ℕ) : gIm m n = sin (ang (n * (2 * m + 1))) := by
  rw [gIm, fRe_eq, fIm_eq, ang_odd, sin_add]; ring

/-- Half a period further down the column, an even row's angle is the same up to whole turns. -/
theorem ang_half_even (m n : ℕ) : ang ((192 + n) * (2 * m)) = ang (n * (2 * m)) - (m : ℝ) * (2 * π) := by
  simp only [ang]; push_cast; ring

/-- Half a period further down the column, an odd row's angle is half a turn on. -/
theorem ang_half_odd (m n : ℕ) : ang ((192 + n) * (2 * m + 1)) = ang (n * (2 * m + 1)) - (m : ℝ) * (2 * π) - π := by
  simp only [ang]; push_cast; ring

/-- The real part of a column transform at row p, of a column with real part a and imaginary part b. -/
def colRe (a b : Fin 384 → ℝ) (p : ℕ) : ℝ := ∑ n : Fin 384, (a n * cos (ang (n.val * p)) - b n * sin (ang (n.val * p)))
/-- The imaginary part of a column transform at row p. -/
def colIm (a b : Fin 384 → ℝ) (p : ℕ) : ℝ := ∑ n : Fin 384, (b n * cos (ang (n.val * p)) + a n * sin (ang (n.val * p)))

/-- The upper half of a column. -/
def up (n : Fin 192) : Fin 384 := ⟨n.val, by omega⟩
/-- The lower half of a column. -/
def dn (n : Fin 192) : Fin 384 := ⟨192 + n.val, by omega⟩

/-- A sum over a column is the sum over its two halves. -/
theorem sum_halves (f : Fin 384 → ℝ) : ∑ n, f n = ∑ n : Fin 192, (f (up n) + f (dn n)) := by
  rw [Finset.sum_add_distrib]
  exact Fin.sum_univ_add (a := 192) (b := 192) f

/-- An even row of the transform by the half-length table. -/
theorem colRe_even (a b : Fin 384 → ℝ) (m : ℕ) :
    colRe a b (2 * m) = ∑ n : Fin 192, (fRe m n.val * (a (up n) + a (dn n)) - fIm m n.val * (b (up n) + b (dn n))) := by
  rw [colRe, sum_halves]
  refine Finset.sum_congr rfl fun n _ => ?_
  have h1 : (up n).val = n.val := rfl
  have h2 : (dn n).val = 192 + n.val := rfl
  rw [h1, h2, ang_half_even, cos_sub_nat_mul_two_pi, sin_sub_nat_mul_two_pi, fRe_eq, fIm_eq]; ring

/-- The imaginary part of an even row. -/
theorem colIm_even (a b : Fin 384 → ℝ) (m : ℕ) :
    colIm a b (2 * m) = ∑ n : Fin 192, (fRe m n.val * (b (up n) + b (dn n)) + fIm m n.val * (a (up n) + a (dn n))) := by
  rw [colIm, sum_halves]
  refine Finset.sum_congr rfl fun n _ => ?_
  have h1 : (up n).val = n.val := rfl
  have h2 : (dn n).val = 192 + n.val := rfl
  rw [h1, h2, ang_half_even, cos_sub_nat_mul_two_pi, sin_sub_nat_mul_two_pi, fRe_eq, fIm_eq]; ring

/-- An odd row of the transform by the turned table. -/
theorem colRe_odd (a b : Fin 384 → ℝ) (m : ℕ) :
    colRe a b (2 * m + 1) = ∑ n : Fin 192, (gRe m n.val * (a (up n) - a (dn n)) - gIm m n.val * (b (up n) - b (dn n))) := by
  rw [colRe, sum_halves]
  refine Finset.sum_congr rfl fun n _ => ?_
  have h1 : (up n).val = n.val := rfl
  have h2 : (dn n).val = 192 + n.val := rfl
  rw [h1, h2, ang_half_odd, cos_sub_pi, sin_sub_pi, cos_sub_nat_mul_two_pi, sin_sub_nat_mul_two_pi, gRe_eq, gIm_eq]; ring

/-- The imaginary part of an odd row. -/
theorem colIm_odd (a b : Fin 384 → ℝ) (m : ℕ) :
    colIm a b (2 * m + 1) = ∑ n : Fin 192, (gRe m n.val * (b (up n) - b (dn n)) + gIm m n.val * (a (up n) - a (dn n))) := by
  rw [colIm, sum_halves]
  refine Finset.sum_congr rfl fun n _ => ?_
  have h1 : (up n).val = n.val := rfl
  have h2 : (dn n).val = 192 + n.val := rfl
  rw [h1, h2, ang_half_odd, cos_sub_pi, sin_sub_pi, cos_sub_nat_mul_two_pi, sin_sub_nat_mul_two_pi, gRe_eq, gIm_eq]; ring

/-- The magnitude formed from three real products instead of four. -/
def three (A B C u v : Fin 192 → ℝ) : ℝ :=
  √((∑ n, A n * u n - ∑ n, B n * v n) * (∑ n, A n * u n - ∑ n, B n * v n) +
    (∑ n, C n * (u n + v n) - ∑ n, A n * u n - ∑ n, B n * v n) * (∑ n, C n * (u n + v n) - ∑ n, A n * u n - ∑ n, B n * v n))

/-- Three products, the third table the sum of the first two, give the real and the imaginary part. -/
theorem three_eq (A B u v : Fin 192 → ℝ) : three A B (fun n => A n + B n) u v =
    √((∑ n, (A n * u n - B n * v n)) ^ 2 + (∑ n, (A n * v n + B n * u n)) ^ 2) := by
  have e1 : ∑ n, A n * u n - ∑ n, B n * v n = ∑ n, (A n * u n - B n * v n) := Finset.sum_sub_distrib .. |>.symm
  have e2 : ∑ n, (A n + B n) * (u n + v n) - ∑ n, A n * u n - ∑ n, B n * v n = ∑ n, (A n * v n + B n * u n) := by
    rw [← Finset.sum_sub_distrib, ← Finset.sum_sub_distrib]
    exact Finset.sum_congr rfl fun n _ => by ring
  rw [three, e1, e2, sq, sq]

/-- One row of the row transform: the real part, unscaled. -/
def rowRe (x : Fin 384 → ℝ) (k : ℕ) : ℝ := ∑ l, x l * cos (ang (l.val * k))
/-- One row of the row transform: the imaginary part, unscaled. -/
def rowIm (x : Fin 384 → ℝ) (k : ℕ) : ℝ := ∑ l, x l * sin (ang (l.val * k))

/-- A row by the scaled table. -/
theorem sum_wRe (x : Fin 384 → ℝ) (k : ℕ) : ∑ l, x l * wRe l.val k = rowRe x k / 384 := by
  rw [rowRe, Finset.sum_div]; exact Finset.sum_congr rfl fun l _ => by rw [wRe_eq]; ring

/-- A row by the scaled sine table. -/
theorem sum_wIm (x : Fin 384 → ℝ) (k : ℕ) : ∑ l, x l * wIm l.val k = rowIm x k / 384 := by
  rw [rowIm, Finset.sum_div]; exact Finset.sum_congr rfl fun l _ => by rw [wIm_eq]; ring

/-- The transform's magnitude at row p and column k, divided by the image's side. -/
def mag (X : Fin 384 → Fin 384 → ℝ) (p k : ℕ) : ℝ :=
  √(colRe (fun n => rowRe (X n) k) (fun n => rowIm (X n) k) p ^ 2 +
    colIm (fun n => rowRe (X n) k) (fun n => rowIm (X n) k) p ^ 2) / 384

/-- Scaling the column scales the magnitude. -/
theorem sqrt_scale (P Q : ℝ) : √((P / 384) ^ 2 + (Q / 384) ^ 2) = √(P ^ 2 + Q ^ 2) / 384 := by
  have : (P / 384) ^ 2 + (Q / 384) ^ 2 = (P ^ 2 + Q ^ 2) / 384 ^ 2 := by ring
  rw [this, Real.sqrt_div (by positivity), Real.sqrt_sq (by norm_num)]

/-- The kernel's even rows are the transform's. -/
theorem even_rows (X : Fin 384 → Fin 384 → ℝ) (m k : ℕ) :
    three (fun n => fRe m n.val) (fun n => fIm m n.val) (fun n => fRe m n.val + fIm m n.val)
      (fun n => ∑ l, X (up n) l * wRe l.val k + ∑ l, X (dn n) l * wRe l.val k)
      (fun n => ∑ l, X (up n) l * wIm l.val k + ∑ l, X (dn n) l * wIm l.val k) = mag X (2 * m) k := by
  rw [three_eq, mag, ← sqrt_scale, colRe_even, colIm_even, Finset.sum_div, Finset.sum_div]
  simp only [sum_wRe, sum_wIm]
  congr 3
  · exact Finset.sum_congr rfl fun n _ => by ring
  · exact Finset.sum_congr rfl fun n _ => by ring

/-- The kernel's odd rows are the transform's. -/
theorem odd_rows (X : Fin 384 → Fin 384 → ℝ) (m k : ℕ) :
    three (fun n => gRe m n.val) (fun n => gIm m n.val) (fun n => gRe m n.val + gIm m n.val)
      (fun n => ∑ l, X (up n) l * wRe l.val k - ∑ l, X (dn n) l * wRe l.val k)
      (fun n => ∑ l, X (up n) l * wIm l.val k - ∑ l, X (dn n) l * wIm l.val k) = mag X (2 * m + 1) k := by
  rw [three_eq, mag, ← sqrt_scale, colRe_odd, colIm_odd, Finset.sum_div, Finset.sum_div]
  simp only [sum_wRe, sum_wIm]
  congr 3
  · exact Finset.sum_congr rfl fun n _ => by ring
  · exact Finset.sum_congr rfl fun n _ => by ring

end Spectral.Math

end
-- ==== Proof.Ideal.Tables.lean ====
/- The tables that the program hands to the spectrum call, as real numbers: the scaled row table, the half-length column
   table of the even rows, and the turned table of the odd rows. -/
module

public import proofs.«01_k».proof.Proof.Ideal.Run
public import proofs.«01_k».proof.Proof.Ideal.SpecVal
public import proofs.«01_k».proof.Proof.Consts
public import proofs.«01_k».proof.Proof.Math
public import Idealize.ShloMosaic.Lib.StableHlo.ReadAt

@[expose] public section

set_option maxRecDepth 16384

noncomputable section

namespace Spectral.Ideal

open Cert.KernelIdeal Cert.KernelIdeal.Gen Idealize.ShloMosaic Idealize.ShloMosaic.TcCoe Idealize.SL.Sem

variable (m : (ℓ : Loc nD τ sig) → Buf (Elt Ideal) ℓ)

/-- The angle that the row table takes, as the program computes it. -/
theorem row_angle (l k : ℕ) (hl : l < 384) (hk : k < 256) :
    Ideal.div (Ideal.ofBits FTy.f32 3221225472#32 * Ideal.atan2 0 (Ideal.ofBits FTy.f32 3212836864#32) *
      FloatOps.sitofp (F := Ideal) FTy.f32 (IntOp.remsi ArithUnit.host (IntOp.muli (BitVec.ofNat 32 l) (BitVec.ofNat 32 k)) 384#32))
      (Ideal.ofBits FTy.f32 1136656384#32) = ((-2 * Real.pi * ((l * k % 384 : ℕ) : ℝ) / 384 : ℝ) : EReal) := by
  have hlk : l * k < 2 ^ 31 := lt_of_lt_of_le (Nat.mul_lt_mul'' hl hk) (by norm_num)
  rw [mul_word, rem_word _ 384 hlk (by norm_num) (by norm_num), float_word _ (by have := Nat.mod_lt (l * k) (show 384 > 0 by norm_num); omega),
    minus_turn, lit_384, ← EReal.coe_mul, div_real _ _ (by norm_num)]

/-- The angle that the half-length column table takes. -/
theorem col_angle (a b : ℕ) (ha : a < 192) (hb : b < 192) :
    Ideal.div (Ideal.ofBits FTy.f32 3221225472#32 * Ideal.atan2 0 (Ideal.ofBits FTy.f32 3212836864#32) *
      FloatOps.sitofp (F := Ideal) FTy.f32 (IntOp.remsi ArithUnit.host (IntOp.muli (BitVec.ofNat 32 a) (BitVec.ofNat 32 b)) 192#32))
      (Ideal.ofBits FTy.f32 1128267776#32) = ((-2 * Real.pi * ((a * b % 192 : ℕ) : ℝ) / 192 : ℝ) : EReal) := by
  have hab : a * b < 2 ^ 31 := lt_of_lt_of_le (Nat.mul_lt_mul'' ha hb) (by norm_num)
  rw [mul_word, rem_word _ 192 hab (by norm_num) (by norm_num), float_word _ (by have := Nat.mod_lt (a * b) (show 192 > 0 by norm_num); omega),
    minus_turn, lit_192, ← EReal.coe_mul, div_real _ _ (by norm_num)]

/-- The angle by which the odd rows' table is turned. -/
theorem turn_angle (b : ℕ) (hb : b < 192) :
    Ideal.div (Ideal.ofBits FTy.f32 3221225472#32 * Ideal.atan2 0 (Ideal.ofBits FTy.f32 3212836864#32) *
      FloatOps.sitofp (F := Ideal) FTy.f32 (BitVec.ofNat 32 b)) (Ideal.ofBits FTy.f32 1136656384#32) = ((Math.ang b : ℝ) : EReal) := by
  rw [float_word _ (by omega), minus_turn, lit_384, ← EReal.coe_mul, div_real _ _ (by norm_num)]; rfl

/-- A kept column passes the select. -/
theorem kept_column (k : ℕ) (hk : k < 193) (x y : EReal) :
    Scalar.select (IntOp.cmpi CmpIPredicate.slt (BitVec.ofNat 32 k) 193#32) x y = x := by
  have h : IntOp.cmpi CmpIPredicate.slt (BitVec.ofNat 32 k) 193#32 = 1 := by
    have e1 := toInt_word k (by omega)
    have e2 := toInt_word 193 (by norm_num)
    show BitVec.ofBool ((BitVec.ofNat 32 k).slt 193#32) = 1
    have : (BitVec.ofNat 32 k).slt 193#32 = true := by
      rw [BitVec.slt_iff_toInt_lt, e1]; show (k : ℤ) < (193#32).toInt; rw [e2]; exact_mod_cast hk
    rw [this]; rfl
  rw [h]; rfl

/-- The row table's cosines. -/
theorem table_re (c : Dev nD) (l : Fin 384) (k : Fin 256) (hk : k.val < 193) :
    (entry0 m c main_v68 (ix2 l (re k) : S384x512.Idx) : EReal) = ((Math.wRe l.val k.val : ℝ) : EReal) := by
  have h : StableHlo.after hostOps0_4 (V4 m c) (Proc.devRef .tc main_v68) (ix2 l (re k) : S384x512.Idx) = ((Math.wRe l.val k.val : ℝ) : EReal) := by
    after_reads_at
    rw [row_angle _ _ l.isLt k.isLt, kept_column _ hk, Ideal.cos_coe, lit_384, div_real _ _ (by norm_num)]; rfl
  exact h

/-- The row table's sines. -/
theorem table_im (c : Dev nD) (l : Fin 384) (k : Fin 256) (hk : k.val < 193) :
    (entry0 m c main_v68 (ix2 l (im k) : S384x512.Idx) : EReal) = ((Math.wIm l.val k.val : ℝ) : EReal) := by
  have h : StableHlo.after hostOps0_4 (V4 m c) (Proc.devRef .tc main_v68) (ix2 l (im k) : S384x512.Idx) = ((Math.wIm l.val k.val : ℝ) : EReal) := by
    after_reads_at
    rw [row_angle _ _ l.isLt (by omega), kept_column _ (by omega), Ideal.sin_coe, lit_384, div_real _ _ (by norm_num)]; rfl
  exact h

/-- The even rows' cosines. -/
theorem table_fRe (c : Dev nD) (a b : Fin 192) : (entry0 m c main_v69 (ix2 a b : S192x192.Idx) : EReal) = ((Math.fRe a.val b.val : ℝ) : EReal) := by
  have h : StableHlo.after hostOps0_4 (V4 m c) (Proc.devRef .tc main_v69) (ix2 a b : S192x192.Idx) = ((Math.fRe a.val b.val : ℝ) : EReal) := by
    after_reads_at
    rw [col_angle _ _ a.isLt b.isLt, Ideal.cos_coe]; rfl
  exact h

/-- The even rows' sines. -/
theorem table_fIm (c : Dev nD) (a b : Fin 192) : (entry0 m c main_v70 (ix2 a b : S192x192.Idx) : EReal) = ((Math.fIm a.val b.val : ℝ) : EReal) := by
  have h : StableHlo.after hostOps0_4 (V4 m c) (Proc.devRef .tc main_v70) (ix2 a b : S192x192.Idx) = ((Math.fIm a.val b.val : ℝ) : EReal) := by
    after_reads_at
    rw [col_angle _ _ a.isLt b.isLt, Ideal.sin_coe]; rfl
  exact h

/-- The even rows' sums. -/
theorem table_fSum (c : Dev nD) (a b : Fin 192) :
    (entry0 m c main_v71 (ix2 a b : S192x192.Idx) : EReal) = ((Math.fRe a.val b.val + Math.fIm a.val b.val : ℝ) : EReal) := by
  have h : StableHlo.after hostOps0_4 (V4 m c) (Proc.devRef .tc main_v71) (ix2 a b : S192x192.Idx) = ((Math.fRe a.val b.val + Math.fIm a.val b.val : ℝ) : EReal) := by
    after_reads_at
    rw [col_angle _ _ a.isLt b.isLt, Ideal.sin_coe, Ideal.cos_coe, ← EReal.coe_add]; rfl
  exact h

/-- The odd rows' cosines. -/
theorem table_gRe (c : Dev nD) (a b : Fin 192) : (entry0 m c main_v72 (ix2 a b : S192x192.Idx) : EReal) = ((Math.gRe a.val b.val : ℝ) : EReal) := by
  have h : StableHlo.after hostOps0_4 (V4 m c) (Proc.devRef .tc main_v72) (ix2 a b : S192x192.Idx) = ((Math.gRe a.val b.val : ℝ) : EReal) := by
    after_reads_at
    rw [col_angle _ _ a.isLt b.isLt, turn_angle _ b.isLt, Ideal.sin_coe, Ideal.cos_coe, Ideal.sin_coe, Ideal.cos_coe, ← EReal.coe_mul, ← EReal.coe_mul, ← EReal.coe_sub]; rfl
  exact h

/-- The odd rows' sines. -/
theorem table_gIm (c : Dev nD) (a b : Fin 192) : (entry0 m c main_v73 (ix2 a b : S192x192.Idx) : EReal) = ((Math.gIm a.val b.val : ℝ) : EReal) := by
  have h : StableHlo.after hostOps0_4 (V4 m c) (Proc.devRef .tc main_v73) (ix2 a b : S192x192.Idx) = ((Math.gIm a.val b.val : ℝ) : EReal) := by
    after_reads_at
    rw [col_angle _ _ a.isLt b.isLt, turn_angle _ b.isLt, Ideal.sin_coe, Ideal.cos_coe, Ideal.sin_coe, Ideal.cos_coe, ← EReal.coe_mul, ← EReal.coe_mul, ← EReal.coe_add]; rfl
  exact h

/-- The odd rows' sums. -/
theorem table_gSum (c : Dev nD) (a b : Fin 192) :
    (entry0 m c main_v74 (ix2 a b : S192x192.Idx) : EReal) = ((Math.gRe a.val b.val + Math.gIm a.val b.val : ℝ) : EReal) := by
  have h : StableHlo.after hostOps0_4 (V4 m c) (Proc.devRef .tc main_v74) (ix2 a b : S192x192.Idx) = ((Math.gRe a.val b.val + Math.gIm a.val b.val : ℝ) : EReal) := by
    after_reads_at
    rw [col_angle _ _ a.isLt b.isLt, turn_angle _ b.isLt, Ideal.sin_coe, Ideal.cos_coe, Ideal.sin_coe, Ideal.cos_coe, ← EReal.coe_mul, ← EReal.coe_mul,
      ← EReal.coe_mul, ← EReal.coe_mul, ← EReal.coe_sub, ← EReal.coe_add, ← EReal.coe_add]; rfl
  exact h

/-- The images are as launched. -/
theorem entry0_images (c : Dev nD) : entry0 m c main_arg0 = m ((c : Thread nD τ).loc main_arg0) := by
  show StableHlo.after hostOps0_4 (V4 m c) (Proc.devRef .tc main_arg0) = _
  after_reads_simp

end Spectral.Ideal

end
-- ==== Proof.Ideal.Ids.lean ====
/- The bin numbers that the program hands to the histogram call, and its other operands, at an entry: entry (r, k) of the
   padded grids is the bin number of the spectrum row that the first call leaves in row r, and −1 in the padding columns. -/
module

public import proofs.«01_k».proof.Proof.Ideal.Run
public import proofs.«01_k».proof.Proof.Consts
public import Idealize.ShloMosaic.Lib.StableHlo.ReadAt
public import Idealize.ShloMosaic.Lib.Pointwise
public import Idealize.ShloMosaic.Lib.Routing.Ops
public import Idealize.ShloMosaic.Lib.KernelVsHost
public import Idealize.ShloMosaic.Lib.Routing.OpsPair

@[expose] public section

set_option maxRecDepth 16384

noncomputable section

namespace Spectral.Ideal

open Cert.KernelIdeal Cert.KernelIdeal.Gen Idealize.ShloMosaic Idealize.ShloMosaic.TcCoe Idealize.SL.Sem

/-- The vertical frequencies, from −1 to 1: all points but the last. -/
def uBody : FVec Ideal S383 .f32 :=
  addf (mulf (broadcastInDim S383 ![0] bcast_S1_S383_0 (shapeCast S1 (id (constant S_ .f32 0xBF800000#32)) shapeCasts_S_S1)) (subf (broadcastInDim S383 ![] bcast_S_S383 (constant S_ .f32 0x3F800000#32)) (Host.divf (sitofp .f32 (iotaInDim S383 32 0)) (broadcastInDim S383 ![] bcast_S_S383 (constant S_ .f32 0x43BF8000#32)))))
    (mulf (broadcastInDim S383 ![0] bcast_S1_S383_0 (shapeCast S1 (id (constant S_ .f32 0x3F800000#32)) shapeCasts_S_S1)) (Host.divf (sitofp .f32 (iotaInDim S383 32 0)) (broadcastInDim S383 ![] bcast_S_S383 (constant S_ .f32 0x43BF8000#32))))

/-- Its last point. -/
def uEnd : FVec Ideal S1 .f32 := broadcastInDim S1 ![] bcast_S_S1 (id (constant S_ .f32 0x3F800000#32))

/-- The vertical frequencies, from −1 to 1. -/
def uLine : FVec Ideal S384 .f32 := concatenate S384 0 [⟨S383, uBody⟩, ⟨S1, uEnd⟩] concatenates_S383_S1_S384_d0

/-- The horizontal frequencies, from 0 to 1: all points but the last. -/
def vBody : FVec Ideal S192 .f32 :=
  addf (mulf (broadcastInDim S192 ![0] bcast_S1_S192_0 (shapeCast S1 (id (constant S_ .f32 0x00000000#32)) shapeCasts_S_S1)) (subf (broadcastInDim S192 ![] bcast_S_S192 (constant S_ .f32 0x3F800000#32)) (Host.divf (sitofp .f32 (iotaInDim S192 32 0)) (broadcastInDim S192 ![] bcast_S_S192 (constant S_ .f32 0x43400000#32)))))
    (mulf (broadcastInDim S192 ![0] bcast_S1_S192_0 (shapeCast S1 (id (constant S_ .f32 0x3F800000#32)) shapeCasts_S_S1)) (Host.divf (sitofp .f32 (iotaInDim S192 32 0)) (broadcastInDim S192 ![] bcast_S_S192 (constant S_ .f32 0x43400000#32))))

/-- Its last point. -/
def vEnd : FVec Ideal S1 .f32 := broadcastInDim S1 ![] bcast_S_S1 (id (constant S_ .f32 0x3F800000#32))

/-- The horizontal frequencies, from 0 to 1. -/
def vLine : FVec Ideal S193 .f32 := concatenate S193 0 [⟨S192, vBody⟩, ⟨S1, vEnd⟩] concatenates_S192_S1_S193_d0

/-- The radial bin numbers. -/
def radOf (u : FVec Ideal S384 .f32) (v : FVec Ideal S193 .f32) : IVec S384x193 32 :=
  minsi (broadcastInDim S384x193 ![] bcast_S_S384x193 (id (constantI S_ 32 15#32))) (maxsi (broadcastInDim S384x193 ![] bcast_S_S384x193 (id (constantI S_ 32 0#32))) (fptosi 32 (mulf
    (minimumf (broadcastInDim S384x193 ![] bcast_S_S384x193 (id (constant (F := Ideal) S_ .f32 0x3F800000#32))) (maximumf (broadcastInDim S384x193 ![] bcast_S_S384x193 (id (constant S_ .f32 0x00000000#32)))
      (Host.sqrt (addf (mulf (broadcastInDim S384x193 ![0] bcast_S384_S384x193_0 u) (broadcastInDim S384x193 ![0] bcast_S384_S384x193_0 u)) (mulf (broadcastInDim S384x193 ![1] bcast_S193_S384x193_1 v) (broadcastInDim S384x193 ![1] bcast_S193_S384x193_1 v)))))) (broadcastInDim S384x193 ![] bcast_S_S384x193 (constant S_ .f32 0x41800000#32)))))

/-- The angular bin numbers. -/
def angOf (u : FVec Ideal S384 .f32) (v : FVec Ideal S193 .f32) : IVec S384x193 32 :=
  minsi (broadcastInDim S384x193 ![] bcast_S_S384x193 (id (constantI S_ 32 7#32))) (maxsi (broadcastInDim S384x193 ![] bcast_S_S384x193 (id (constantI S_ 32 0#32))) (fptosi 32 (mulf
    (Host.divf (addf (Host.atan2 (broadcastInDim S384x193 ![0] bcast_S384_S384x193_0 u) (addf (broadcastInDim S384x193 ![1] bcast_S193_S384x193_1 v) (broadcastInDim S384x193 ![] bcast_S_S384x193 (constant (F := Ideal) S_ .f32 0x3089705F#32)))) (broadcastInDim S384x193 ![] bcast_S_S384x193 (constant S_ .f32 0x3FC90FDB#32))) (broadcastInDim S384x193 ![] bcast_S_S384x193 (constant S_ .f32 0x40490FDB#32))) (broadcastInDim S384x193 ![] bcast_S_S384x193 (constant S_ .f32 0x41000000#32)))))

/-- The radial bin numbers of the program's frequencies. -/
def radIds : IVec S384x193 32 := radOf uLine vLine

/-- The angular bin numbers of the program's frequencies. -/
def angIds : IVec S384x193 32 := angOf uLine vLine

/-- The spectrum row that the first call leaves in row r: the even rows first, then the odd ones. -/
def perm (r : Fin 384) : Fin 384 := if h : r.val < 192 then ⟨2 * r.val, by omega⟩ else ⟨2 * (r.val - 192) + 1, by omega⟩

/-- A grid of bin numbers padded with −1 to 256 columns and with its rows in the first call's order. -/
def padded (g : IVec S384x193 32) (r : Fin 384) (k : Fin 256) : BitVec 32 :=
  if h : k.val < 193 then g (ix2 (perm r) ⟨k.val, h⟩) else 4294967295#32

/-- The padding and the row order, as the program makes them. -/
theorem padded_eq (g : IVec S384x193 32) (w : IVec S384x1 32) (r : Fin 384) (k : Fin 256)
    (hw : w (ix2 r (0 : Fin 1)) = BitVec.ofNat 32 (perm r).val) :
    Host.gather gather_S384x256_S384x1_S384x256_1_0_n_n_0_1_1256
      (pad S384x256 ![0, 0] ![0, 63] ![0, 0] g (id (constantI S_ 32 4294967295#32)) pads_S384x193_S384x256_000_0630 h_S_) w (ix2 r k) =
    padded g r k := by
  refine (Routing.gather_row _ rfl rfl rfl rfl rfl _ _ r k (perm r) hw (by norm_num)).trans ?_
  unfold padded
  split_ifs with h
  · exact pad_apply_of_inside _ _ _ _ _ _ _ _ (ix2 (perm r) ⟨k.val, h⟩) (fun a => by
      match a with
      | ⟨0, _⟩ => show (perm r).val = 0 + (perm r).val * (0 + 1); omega
      | ⟨1, _⟩ => show k.val = 0 + k.val * (0 + 1); omega)
  · refine (pad_apply_of_not_inside _ _ _ _ _ _ _ _ (1 : Fin 2) ?_).trans rfl
    intro hh
    have h2 : (k.val - 0) / (0 + 1) < 193 := hh.2.2
    omega

variable (m : (ℓ : Loc nD τ sig) → Buf (Elt Ideal) ℓ) (c : Dev nD)

theorem u_body : (StableHlo.upto hostOps1_1 (V7 m (outs0 m) c) 20 (Proc.devRef .tc main_call2_v15) : FVec Ideal S383 .f32) = uBody := by
  after_reads_simp
  rfl

theorem u_end : (StableHlo.upto hostOps1_1 (V7 m (outs0 m) c) 20 (Proc.devRef .tc main_call2_v16) : FVec Ideal S1 .f32) = uEnd := by
  after_reads_simp
  rfl

theorem v_body : (StableHlo.upto hostOps1_3 (V9 m (outs0 m) c) 20 (Proc.devRef .tc main_call3_v15) : FVec Ideal S192 .f32) = vBody := by
  after_reads_simp
  rfl

theorem v_end : (StableHlo.upto hostOps1_3 (V9 m (outs0 m) c) 20 (Proc.devRef .tc main_call3_v16) : FVec Ideal S1 .f32) = vEnd := by
  after_reads_simp
  rfl

/-- The program's vertical frequencies. -/
theorem u_line : concatenate S384 0 [⟨S383, (StableHlo.upto hostOps1_1 (V7 m (outs0 m) c) 20 (Proc.devRef .tc main_call2_v15) : FVec Ideal S383 .f32)⟩,
      ⟨S1, (StableHlo.upto hostOps1_1 (V7 m (outs0 m) c) 20 (Proc.devRef .tc main_call2_v16) : FVec Ideal S1 .f32)⟩] concatenates_S383_S1_S384_d0 = uLine := by
  rw [u_body, u_end]; rfl

/-- The program's horizontal frequencies. -/
theorem v_line : concatenate S193 0 [⟨S192, (StableHlo.upto hostOps1_3 (V9 m (outs0 m) c) 20 (Proc.devRef .tc main_call3_v15) : FVec Ideal S192 .f32)⟩,
      ⟨S1, (StableHlo.upto hostOps1_3 (V9 m (outs0 m) c) 20 (Proc.devRef .tc main_call3_v16) : FVec Ideal S1 .f32)⟩] concatenates_S192_S1_S193_d0 = vLine := by
  rw [v_body, v_end]; rfl

/-- The even rows' numbers. -/
theorem even_word (n : Fin 192) :
    (StableHlo.upto hostOps1_14 (V20 m (outs0 m) c) 14 (Proc.devRef .tc main_v106) : IVec S192 32) (ix1 n) = BitVec.ofNat 32 (2 * n.val) := by
  after_reads_at
  rw [mul_word 2 n.val]
  exact BitVec.zero_add _

/-- The odd rows' numbers. -/
theorem odd_word (n : Fin 192) :
    (StableHlo.upto hostOps1_14 (V20 m (outs0 m) c) 14 (Proc.devRef .tc main_v111) : IVec S192 32) (ix1 n) = BitVec.ofNat 32 (2 * n.val + 1) := by
  after_reads_at
  rw [mul_word 2 n.val]
  show BitVec.ofNat 32 1 + BitVec.ofNat 32 (2 * n.val) = _
  rw [← BitVec.ofNat_add, Nat.add_comm]

/-- The histogram call's spectrum operand. -/
theorem entry1_spec (b : Fin 8) (l : Fin 98304) :
    entry1 (F := Ideal) m c main_v129 (ix2 b l) = specOut m c (ix3 b ⟨l.val / 256, by omega⟩ ⟨l.val % 256, by omega⟩) := by
  have h : StableHlo.after hostOps1_14 (V20 m (outs0 m) c) (Proc.devRef .tc main_v129) (ix2 b l : S8x98304.Idx) =
      specOut m c (ix3 b ⟨l.val / 256, by omega⟩ ⟨l.val % 256, by omega⟩) := by
    after_reads_at
    exact congrFun (V6_main_v75 m c) _
  exact h

/-- Its weights: the layer's, transposed. -/
theorem entry1_weights (q : Fin 24) (o : Fin 64) :
    entry1 (F := Ideal) m c main_v130 (ix2 q o) = m ((c : Thread nD τ).loc main_arg1) (ix2 o q) := by
  have h : StableHlo.after hostOps1_14 (V20 m (outs0 m) c) (Proc.devRef .tc main_v130) (ix2 q o : S24x64.Idx) =
      m ((c : Thread nD τ).loc main_arg1) (ix2 o q) := by
    after_reads_at
    exact congrFun ((V6_of m (outs0 m) c main_arg1 (by decide)).trans <| (V5_of m c main_arg1 (by decide)).trans <| (V4_of m c main_arg1 (by decide)).trans <|
      (V3_of m c main_arg1 (by decide)).trans <| (V2_of m c main_arg1 (by decide)).trans <| (V1_of m c main_arg1 (by decide)).trans rfl) _
  exact h

/-- Its bias. -/
theorem entry1_bias (o : Fin 64) :
    entry1 (F := Ideal) m c main_v131 (ix2 (0 : Fin 1) o) = m ((c : Thread nD τ).loc main_arg2) (ix1 o) := by
  have h : StableHlo.after hostOps1_14 (V20 m (outs0 m) c) (Proc.devRef .tc main_v131) (ix2 (0 : Fin 1) o : S1x64.Idx) =
      m ((c : Thread nD τ).loc main_arg2) (ix1 o) := by
    after_reads_at
    exact congrFun ((V6_of m (outs0 m) c main_arg2 (by decide)).trans <| (V5_of m c main_arg2 (by decide)).trans <| (V4_of m c main_arg2 (by decide)).trans <|
      (V3_of m c main_arg2 (by decide)).trans <| (V2_of m c main_arg2 (by decide)).trans <| (V1_of m c main_arg2 (by decide)).trans rfl) _
  exact h

/-- The row order's word. -/
theorem perm_word (r : Fin 384) (A : IVec S192 32) (B : IVec S192 32) (hA : ∀ n, A (ix1 n) = BitVec.ofNat 32 (2 * n.val))
    (hB : ∀ n, B (ix1 n) = BitVec.ofNat 32 (2 * n.val + 1)) :
    broadcastInDim S384x1 ![0] bcast_S384_S384x1_0
      (select (cmpi CmpIPredicate.slt (concatenate S384 0 [⟨S192, A⟩, ⟨S192, B⟩] concatenates_S192_S192_S384_d0)
          (broadcastInDim S384 ![] bcast_S_S384 (constantI S_ 32 0#32)))
        (addi (concatenate S384 0 [⟨S192, A⟩, ⟨S192, B⟩] concatenates_S192_S192_S384_d0) (broadcastInDim S384 ![] bcast_S_S384 (constantI S_ 32 384#32)))
        (concatenate S384 0 [⟨S192, A⟩, ⟨S192, B⟩] concatenates_S192_S192_S384_d0)) (ix2 r (0 : Fin 1)) = BitVec.ofNat 32 (perm r).val := by
  have hc : concatenate S384 0 [⟨S192, A⟩, ⟨S192, B⟩] concatenates_S192_S192_S384_d0 (ix1 r) = BitVec.ofNat 32 (perm r).val := by
    unfold perm
    pointwise
    by_cases h : r.val < 192
    · simp only [dif_pos h]
      exact hA _
    · simp only [dif_neg h]
      exact (by simpa using hB ⟨r.val - 192, by omega⟩)
  generalize concatenate S384 0 [⟨S192, A⟩, ⟨S192, B⟩] concatenates_S192_S192_S384_d0 = w at hc
  pointwise
  rw [hc]
  exact Routing.wrap_of_lt _ _ (by
    rw [BitVec.toNat_ofNat]
    have := (perm r).isLt
    have h2 := Nat.mod_le (perm r).val (2 ^ 32)
    omega)

/-- The histogram call's radial bin numbers. -/
theorem entry1_rad (l : Fin 98304) :
    entry1 (F := Ideal) m c main_v127 (ix2 (0 : Fin 1) l) = padded radIds ⟨l.val / 256, by omega⟩ ⟨l.val % 256, by omega⟩ := by
  have h : StableHlo.after hostOps1_14 (V20 m (outs0 m) c) (Proc.devRef .tc main_v127) (ix2 (0 : Fin 1) l : S1x98304.Idx) =
      padded radIds ⟨l.val / 256, by omega⟩ ⟨l.val % 256, by omega⟩ := by
    after_reads_at
    refine (padded_eq (radOf (concatenate S384 0 [⟨S383, (StableHlo.upto hostOps1_1 (V7 m (outs0 m) c) 20 (Proc.devRef .tc main_call2_v15) : FVec Ideal S383 .f32)⟩,
      ⟨S1, (StableHlo.upto hostOps1_1 (V7 m (outs0 m) c) 20 (Proc.devRef .tc main_call2_v16) : FVec Ideal S1 .f32)⟩] concatenates_S383_S1_S384_d0)
      (concatenate S193 0 [⟨S192, (StableHlo.upto hostOps1_3 (V9 m (outs0 m) c) 20 (Proc.devRef .tc main_call3_v15) : FVec Ideal S192 .f32)⟩,
      ⟨S1, (StableHlo.upto hostOps1_3 (V9 m (outs0 m) c) 20 (Proc.devRef .tc main_call3_v16) : FVec Ideal S1 .f32)⟩] concatenates_S192_S1_S193_d0))
      _ _ _ (perm_word _ _ _ (even_word m c) (odd_word m c))).trans ?_
    rw [u_line, v_line]; rfl
  exact h

/-- The histogram call's angular bin numbers. -/
theorem entry1_ang (l : Fin 98304) :
    entry1 (F := Ideal) m c main_v128 (ix2 (0 : Fin 1) l) = padded angIds ⟨l.val / 256, by omega⟩ ⟨l.val % 256, by omega⟩ := by
  have h : StableHlo.after hostOps1_14 (V20 m (outs0 m) c) (Proc.devRef .tc main_v128) (ix2 (0 : Fin 1) l : S1x98304.Idx) =
      padded angIds ⟨l.val / 256, by omega⟩ ⟨l.val % 256, by omega⟩ := by
    after_reads_at
    refine (padded_eq (angOf (concatenate S384 0 [⟨S383, (StableHlo.upto hostOps1_1 (V7 m (outs0 m) c) 20 (Proc.devRef .tc main_call2_v15) : FVec Ideal S383 .f32)⟩,
      ⟨S1, (StableHlo.upto hostOps1_1 (V7 m (outs0 m) c) 20 (Proc.devRef .tc main_call2_v16) : FVec Ideal S1 .f32)⟩] concatenates_S383_S1_S384_d0)
      (concatenate S193 0 [⟨S192, (StableHlo.upto hostOps1_3 (V9 m (outs0 m) c) 20 (Proc.devRef .tc main_call3_v15) : FVec Ideal S192 .f32)⟩,
      ⟨S1, (StableHlo.upto hostOps1_3 (V9 m (outs0 m) c) 20 (Proc.devRef .tc main_call3_v16) : FVec Ideal S1 .f32)⟩] concatenates_S192_S1_S193_d0))
      _ _ _ (perm_word _ _ _ (even_word m c) (odd_word m c))).trans ?_
    rw [u_line, v_line]; rfl
  exact h

end Spectral.Ideal

end
-- ==== Proof.Ideal.Spectrum.lean ====
/- For real images the first call's spectrum is the two-dimensional transform's: row r of its array holds row `perm r` of the
   transform, summed over the channels. -/
module

public import proofs.«01_k».proof.Proof.Ideal.SpecArr
public import proofs.«01_k».proof.Proof.Ideal.Tables
public import proofs.«01_k».proof.Proof.Ideal.Ids

@[expose] public section

set_option maxRecDepth 16384

noncomputable section

namespace Spectral.Ideal

open Cert.KernelIdeal Cert.KernelIdeal.Gen Idealize.ShloMosaic Idealize.ShloMosaic.TcCoe Idealize.SL.Sem

/-- The three-product magnitude of real numbers. -/
theorem threeMag_real (A B C u v : Fin 192 → ℝ) :
    threeMag (fun n => (A n : EReal)) (fun n => (B n : EReal)) (fun n => (C n : EReal)) (fun n => (u n : EReal)) (fun n => (v n : EReal)) =
      ((Math.three A B C u v : ℝ) : EReal) := by
  unfold threeMag Math.three
  simp only [← EReal.coe_mul, ← EReal.coe_add, coe_sum, ← EReal.coe_sub]
  exact sqrt_real _ (add_nonneg (mul_self_nonneg _) (mul_self_nonneg _))

/-- A row of a real image against a column of real numbers. -/
theorem rowDotAt_real (X : FVec Ideal S8x96x384x384 .f32) (w : FVec Ideal S384x512 .bf16) (b : Fin 8) (ch : Fin 96) (n : Fin 384) (q : Fin 512)
    (x t : Fin 384 → ℝ) (hx : ∀ l, X (ix4 b ch n l) = ((x l : ℝ) : EReal)) (ht : ∀ l, w (ix2 l q) = ((t l : ℝ) : EReal)) :
    rowDotAt X w b ch n q = ((∑ l, x l * t l : ℝ) : EReal) := by
  unfold rowDotAt
  rw [← coe_sum]
  exact Finset.sum_congr rfl fun l _ => by rw [hx, ht, EReal.coe_mul]

variable (m : (ℓ : Loc nD τ sig) → Buf (Elt Ideal) ℓ)

/-- A channel's magnitude in the first call's array. -/
theorem chanMag_real (c : Dev nD) (X : Fin 8 → Fin 96 → Fin 384 → Fin 384 → ℝ)
    (hX : ∀ b ch n l, (m ((c : Thread nD τ).loc main_arg0) (ix4 b ch n l : S8x96x384x384.Idx) : EReal) = ((X b ch n l : ℝ) : EReal))
    (b : Fin 8) (ch : Fin 96) (r : Fin 384) (k : Fin 256) (hk : k.val < 193) :
    chanMag (entry0 m c main_arg0) (entry0 m c main_v68) (entry0 m c main_v69) (entry0 m c main_v70) (entry0 m c main_v71) (entry0 m c main_v72)
      (entry0 m c main_v73) (entry0 m c main_v74) b ch r k = ((Math.mag (X b ch) (perm r).val k.val : ℝ) : EReal) := by
  have hR : ∀ n, rowDotAt (entry0 m c main_arg0) (entry0 m c main_v68) b ch n (re k) = ((∑ l, X b ch n l * Math.wRe l.val k.val : ℝ) : EReal) := fun n =>
    rowDotAt_real _ _ _ _ _ _ _ _ (fun l => (congrFun (entry0_images m c) _).trans (hX b ch n l)) (fun l => table_re m c l k hk)
  have hI : ∀ n, rowDotAt (entry0 m c main_arg0) (entry0 m c main_v68) b ch n (im k) = ((∑ l, X b ch n l * Math.wIm l.val k.val : ℝ) : EReal) := fun n =>
    rowDotAt_real _ _ _ _ _ _ _ _ (fun l => (congrFun (entry0_images m c) _).trans (hX b ch n l)) (fun l => table_im m c l k hk)
  unfold chanMag perm
  split_ifs with h
  · rw [← Math.even_rows, ← threeMag_real]
    congr 1
    · exact funext fun n => table_fRe m c _ n
    · exact funext fun n => table_fIm m c _ n
    · exact funext fun n => table_fSum m c _ n
    · exact funext fun n => by rw [hR, hR, ← EReal.coe_add]; rfl
    · exact funext fun n => by rw [hI, hI, ← EReal.coe_add]; rfl
  · rw [← Math.odd_rows, ← threeMag_real]
    congr 1
    · exact funext fun n => table_gRe m c _ n
    · exact funext fun n => table_gIm m c _ n
    · exact funext fun n => table_gSum m c _ n
    · exact funext fun n => by rw [hR, hR, ← EReal.coe_sub]; rfl
    · exact funext fun n => by rw [hI, hI, ← EReal.coe_sub]; rfl

/-- The spectrum operand of the histogram call. -/
theorem spectrum_real (c : Dev nD) (X : Fin 8 → Fin 96 → Fin 384 → Fin 384 → ℝ)
    (hX : ∀ b ch n l, (m ((c : Thread nD τ).loc main_arg0) (ix4 b ch n l : S8x96x384x384.Idx) : EReal) = ((X b ch n l : ℝ) : EReal))
    (b : Fin 8) (l : Fin 98304) (hk : l.val % 256 < 193) :
    (entry1 (F := Ideal) m c main_v129 (ix2 b l : S8x98304.Idx) : EReal) =
      ∑ ch : Fin 96, ((Math.mag (X b ch) (perm ⟨l.val / 256, by omega⟩).val (l.val % 256) : ℝ) : EReal) := by
  refine (entry1_spec m c b l).trans ?_
  refine (congrFun (spec_array (entry0 m) c) _).trans ?_
  show specVal (entry0 m) c b ⟨l.val / 256, by omega⟩ ⟨l.val % 256, by omega⟩ = _
  unfold specVal
  exact Finset.sum_congr rfl fun ch _ => chanMag_real m c X hX b ch _ _ hk

end Spectral.Ideal

end
-- ==== Proof.Ideal.HistArr.lean ====
/- The histogram call has one grid point and every window's block is its whole array, so what the call leaves in its
   result array is its body's result on the five arrays that it is given. -/
module

public import proofs.«01_k».proof.Proof.Ideal.Run
public import Idealize.ShloMosaic.Lib.Pipeline.Value

@[expose] public section

set_option maxRecDepth 16384

noncomputable section

namespace Spectral.Ideal

open Cert.KernelIdeal Cert.KernelIdeal.Gen Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The block of window 0 starts at the origin of its array. -/
theorem hist_origin0 : ∀ t : Fin cfg1.N, win1_0.index t (0 : Fin 2) = 0 ∧ win1_0.index t (1 : Fin 2) = 0 :=
  (by decide +kernel : ∀ t : Fin grid1.N, _)

/-- An index of the block of window 0 is that index of the array. -/
theorem hist_emb0 (t : Fin cfg1.N) (j : S8x98304.Idx) : ((cfg1.win 0).blk t).view.emb j = j := by
  obtain ⟨e0, e1⟩ := hist_origin0 t
  funext a; apply Fin.ext
  match a with
  | ⟨0, _⟩ => show win1_0.index t (0 : Fin 2) * 8 + 1 * (j 0).val = (j 0).val; omega
  | ⟨1, _⟩ => show win1_0.index t (1 : Fin 2) * 98304 + 1 * (j 1).val = (j 1).val; omega

/-- The block of window 0 is its array. -/
theorem hist_block0 (c : Dev nD) (t : Fin cfg1.N) : iblk1 V c 0 t = V c main_v129 := by
  funext j; show V c main_v129 (((cfg1.win 0).blk t).view.emb j) = V c main_v129 j; rw [hist_emb0]

/-- The block of window 1 starts at the origin of its array. -/
theorem hist_origin1 : ∀ t : Fin cfg1.N, win1_1.index t (0 : Fin 2) = 0 ∧ win1_1.index t (1 : Fin 2) = 0 :=
  (by decide +kernel : ∀ t : Fin grid1.N, _)

/-- An index of the block of window 1 is that index of the array. -/
theorem hist_emb1 (t : Fin cfg1.N) (j : S1x98304.Idx) : ((cfg1.win 1).blk t).view.emb j = j := by
  obtain ⟨e0, e1⟩ := hist_origin1 t
  funext a; apply Fin.ext
  match a with
  | ⟨0, _⟩ => show win1_1.index t (0 : Fin 2) * 1 + 1 * (j 0).val = (j 0).val; omega
  | ⟨1, _⟩ => show win1_1.index t (1 : Fin 2) * 98304 + 1 * (j 1).val = (j 1).val; omega

/-- The block of window 1 is its array. -/
theorem hist_block1 (c : Dev nD) (t : Fin cfg1.N) : iblk1 V c 1 t = V c main_v127 := by
  funext j; show V c main_v127 (((cfg1.win 1).blk t).view.emb j) = V c main_v127 j; rw [hist_emb1]

/-- The block of window 2 starts at the origin of its array. -/
theorem hist_origin2 : ∀ t : Fin cfg1.N, win1_2.index t (0 : Fin 2) = 0 ∧ win1_2.index t (1 : Fin 2) = 0 :=
  (by decide +kernel : ∀ t : Fin grid1.N, _)

/-- An index of the block of window 2 is that index of the array. -/
theorem hist_emb2 (t : Fin cfg1.N) (j : S1x98304.Idx) : ((cfg1.win 2).blk t).view.emb j = j := by
  obtain ⟨e0, e1⟩ := hist_origin2 t
  funext a; apply Fin.ext
  match a with
  | ⟨0, _⟩ => show win1_2.index t (0 : Fin 2) * 1 + 1 * (j 0).val = (j 0).val; omega
  | ⟨1, _⟩ => show win1_2.index t (1 : Fin 2) * 98304 + 1 * (j 1).val = (j 1).val; omega

/-- The block of window 2 is its array. -/
theorem hist_block2 (c : Dev nD) (t : Fin cfg1.N) : iblk1 V c 2 t = V c main_v128 := by
  funext j; show V c main_v128 (((cfg1.win 2).blk t).view.emb j) = V c main_v128 j; rw [hist_emb2]

/-- The block of window 3 starts at the origin of its array. -/
theorem hist_origin3 : ∀ t : Fin cfg1.N, win1_3.index t (0 : Fin 2) = 0 ∧ win1_3.index t (1 : Fin 2) = 0 :=
  (by decide +kernel : ∀ t : Fin grid1.N, _)

/-- An index of the block of window 3 is that index of the array. -/
theorem hist_emb3 (t : Fin cfg1.N) (j : S24x64.Idx) : ((cfg1.win 3).blk t).view.emb j = j := by
  obtain ⟨e0, e1⟩ := hist_origin3 t
  funext a; apply Fin.ext
  match a with
  | ⟨0, _⟩ => show win1_3.index t (0 : Fin 2) * 24 + 1 * (j 0).val = (j 0).val; omega
  | ⟨1, _⟩ => show win1_3.index t (1 : Fin 2) * 64 + 1 * (j 1).val = (j 1).val; omega

/-- The block of window 3 is its array. -/
theorem hist_block3 (c : Dev nD) (t : Fin cfg1.N) : iblk1 V c 3 t = V c main_v130 := by
  funext j; show V c main_v130 (((cfg1.win 3).blk t).view.emb j) = V c main_v130 j; rw [hist_emb3]

/-- The block of window 4 starts at the origin of its array. -/
theorem hist_origin4 : ∀ t : Fin cfg1.N, win1_4.index t (0 : Fin 2) = 0 ∧ win1_4.index t (1 : Fin 2) = 0 :=
  (by decide +kernel : ∀ t : Fin grid1.N, _)

/-- An index of the block of window 4 is that index of the array. -/
theorem hist_emb4 (t : Fin cfg1.N) (j : S1x64.Idx) : ((cfg1.win 4).blk t).view.emb j = j := by
  obtain ⟨e0, e1⟩ := hist_origin4 t
  funext a; apply Fin.ext
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- The block of window 4 is its array. -/
theorem hist_block4 (c : Dev nD) (t : Fin cfg1.N) : iblk1 V c 4 t = V c main_v131 := by
  funext j; show V c main_v131 (((cfg1.win 4).blk t).view.emb j) = V c main_v131 j; rw [hist_emb4]

/-- The block of window 5 starts at the origin of its array. -/
theorem hist_origin5 : ∀ t : Fin cfg1.N, win1_5.index t (0 : Fin 2) = 0 ∧ win1_5.index t (1 : Fin 2) = 0 :=
  (by decide +kernel : ∀ t : Fin grid1.N, _)

/-- An index of the block of window 5 is that index of the array. -/
theorem hist_emb5 (t : Fin cfg1.N) (j : S8x64.Idx) : ((cfg1.win 5).blk t).view.emb j = j := by
  obtain ⟨e0, e1⟩ := hist_origin5 t
  funext a; apply Fin.ext
  match a with
  | ⟨0, _⟩ => show win1_5.index t (0 : Fin 2) * 8 + 1 * (j 0).val = (j 0).val; omega
  | ⟨1, _⟩ => show win1_5.index t (1 : Fin 2) * 64 + 1 * (j 1).val = (j 1).val; omega

/-- Reading an array through the block of window 5 changes nothing. -/
theorem hist_cut (t : Fin cfg1.N) (X : Vec F S8x64 .f32) :
    (cfg1.win 5).cut (grid1.coords t) X = ((cfg1.win 5).blk t).view.read (Elt F) X := by
  funext j
  show X j = X (((cfg1.win 5).blk t).view.emb j)
  rw [hist_emb5]

/-- What the call writes back is the body's result on the five arrays. -/
theorem hist_flushed (c : Dev nD) (t : Fin cfg1.N) :
    (dat1 V c).flushed 5 t = ((cfg1.win 5).blk t).view.read (Elt F)
      (out1_5 (V c main_v129) (V c main_v127) (V c main_v128) (V c main_v130) (V c main_v131)) := by
  show (cfg1.win 5).cut (grid1.coords t) ((dat1 V c).after 5 t) = _
  rw [after1_5, hist_block0, hist_block1, hist_block2, hist_block3, hist_block4]
  exact hist_cut t _

/-- Every index of the result is written. -/
theorem hist_covered (i : S8x64.Idx) :
    ∃ t : Fin cfg1.N, (cfg1.win 5).flush t = true ∧ i ∈ ((cfg1.win 5).blk t).view.set :=
  ⟨(⟨0, by decide⟩ : Fin cfg1.N), flush1_5 _, by
    have h := ((cfg1.win 5).blk (⟨0, by decide⟩ : Fin cfg1.N)).view.emb_mem_set i; rwa [hist_emb5] at h⟩

/-- The result array after the call is the body's result on the five arrays. -/
theorem hist_array (c : Dev nD) : (dat1 V c).arrAt 5 cfg1.N =
    out1_5 (V c main_v129) (V c main_v127) (V c main_v128) (V c main_v130) (V c main_v131) :=
  (dat1 V c).arrAt_eq_of_cover 5 _ (fun t _ => hist_flushed V c t) hist_covered

end Spectral.Ideal

end
-- ==== Proof.Ideal.HistVal.lean ====
/- What the histogram call leaves in its array, at an entry: the twenty-four bins of the logarithmic magnitudes, the radial
   sixteen and the angular eight each divided by their sum, through the linear layer. -/
module

public import proofs.«01_k».proof.Proof.Ideal.HistArr
public import proofs.«01_k».proof.Proof.Consts
public import Idealize.ShloMosaic.Lib.Pipeline.ValueKit

@[expose] public section

set_option maxRecDepth 16384

noncomputable section

namespace Spectral.Ideal

open Cert.KernelIdeal Cert.KernelIdeal.Gen Idealize.ShloMosaic Idealize.ShloMosaic.TcCoe Idealize.SL.Sem

section Generic

variable {F : FTy → Type} [FloatOps F] [Named F]

/-- One bin: the sum of the magnitudes whose bin number is w, for each image. -/
def binCol (mag : FVec F S8x98304 .f32) (ids : IVec S1x98304 32) (w : BitVec 32) : FVec F S8x1 .f32 :=
  shapeCast S8x1 (multiReduction .add [1] S8
    (select (broadcastTo S8x98304 (shapeCast S1x98304 (cmpi .eq ids (broadcast S1x98304 w)) shapeCasts_S1x98304_S1x98304) broadcasts_S1x98304_S8x98304)
      mag (broadcast S8x98304 (Scalar.ofBits .f32 0x00000000#32)))
    0x00000000#32 reduces_S8x98304_S8 (.inl rfl) rfl) shapeCasts_S8_S8x1

/-- The twenty-four bins side by side. -/
def bins (mag : FVec F S8x98304 .f32) (rb ob : IVec S1x98304 32) : FVec F S8x24 .f32 :=
  concatenate S8x24 1 [⟨S8x1, binCol mag rb 0#32⟩, ⟨S8x1, binCol mag rb 1#32⟩, ⟨S8x1, binCol mag rb 2#32⟩, ⟨S8x1, binCol mag rb 3#32⟩, ⟨S8x1, binCol mag rb 4#32⟩, ⟨S8x1, binCol mag rb 5#32⟩, ⟨S8x1, binCol mag rb 6#32⟩, ⟨S8x1, binCol mag rb 7#32⟩, ⟨S8x1, binCol mag rb 8#32⟩, ⟨S8x1, binCol mag rb 9#32⟩, ⟨S8x1, binCol mag rb 10#32⟩, ⟨S8x1, binCol mag rb 11#32⟩, ⟨S8x1, binCol mag rb 12#32⟩, ⟨S8x1, binCol mag rb 13#32⟩, ⟨S8x1, binCol mag rb 14#32⟩, ⟨S8x1, binCol mag rb 15#32⟩, ⟨S8x1, binCol mag ob 0#32⟩, ⟨S8x1, binCol mag ob 1#32⟩, ⟨S8x1, binCol mag ob 2#32⟩, ⟨S8x1, binCol mag ob 3#32⟩, ⟨S8x1, binCol mag ob 4#32⟩, ⟨S8x1, binCol mag ob 5#32⟩, ⟨S8x1, binCol mag ob 6#32⟩, ⟨S8x1, binCol mag ob 7#32⟩]
    concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x24_d1

/-- The radial bins' sums. -/
def radSum (h : FVec F S8x24 .f32) : FVec F S8x1 .f32 :=
  addf (shapeCast S8x1 (multiReduction .add [1] S8 (extractStridedSlice S8x16 ![0, 0] h slices_S8x24_o0_0_S8x16) 0x00000000#32 reduces_S8x16_S8 (.inl rfl) rfl) shapeCasts_S8_S8x1)
    (broadcast S8x1 (Scalar.ofBits .f32 0x358637BD#32))

/-- The angular bins' sums. -/
def angSum (h : FVec F S8x24 .f32) : FVec F S8x1 .f32 :=
  addf (shapeCast S8x1 (multiReduction .add [1] S8 (extractStridedSlice S8x8 ![0, 16] h slices_S8x24_o0_16_S8x8) 0x00000000#32 reduces_S8x8_S8 (.inl rfl) rfl) shapeCasts_S8_S8x1)
    (broadcast S8x1 (Scalar.ofBits .f32 0x358637BD#32))

set_option maxHeartbeats 1000000 in
/-- The call's result on its five arrays. -/
theorem hist_out (x0 : Vec F S8x98304 .f32) (x1 x2 : Vec F S1x98304 .i32) (x3 : Vec F S24x64 .f32) (x4 : Vec F S1x64 .f32) :
    out1_5 x0 x1 x2 x3 x4 = k1_pay1 (bins (k1_pay2 x0) (k1_pay3 x1) (k1_pay4 x2)) (angSum (bins (k1_pay2 x0) (k1_pay3 x1) (k1_pay4 x2))) k1_pay30
      (shapeCast S8x1 (radSum (bins (k1_pay2 x0) (k1_pay3 x1) (k1_pay4 x2))) shapeCasts_S8x1_S8x1) x3 x4 := by
  have e0 : View.ld x0 r1_0 = x0 := by frame_out
  have e1 : View.ld x1 r1_1 = x1 := by frame_out
  have e2 : View.ld x2 r1_1 = x2 := by frame_out
  frame_out
  simp only [k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, e0, e1, e2]
  rfl

end Generic

/-- A bin at an image: the sum of that image's magnitudes with the bin's number. -/
theorem binCol_apply (mag : FVec Ideal S8x98304 .f32) (ids : IVec S1x98304 32) (w : BitVec 32) (b : Fin 8) :
    binCol (F := Ideal) mag ids w (ix2 b (0 : Fin 1)) = ∑ l : Fin 98304, if ids (ix2 (0 : Fin 1) l) = w then mag (ix2 b l) else (0 : EReal) := by
  pointwise [binCol]
  refine Finset.sum_congr rfl fun l _ => ?_
  have h : ∀ (x y : BitVec 32) (u v : EReal), Scalar.select (IntOp.cmpi CmpIPredicate.eq x y) u v = if x = y then u else v := by
    intro x y u v
    show (if BitVec.ofBool (x == y) = 1 then u else v) = _
    by_cases e : x = y
    · subst e; simp
    · have : (x == y) = false := by simpa using e
      rw [this, if_neg e]; exact if_neg (by decide)
  exact h _ _ _ _

/-- Bin q of image b: a radial bin below sixteen, an angular one from there on. -/
def binVal (mag : FVec Ideal S8x98304 .f32) (rb ob : IVec S1x98304 32) (b : Fin 8) (q : Fin 24) : EReal :=
  if q.val < 16 then ∑ l : Fin 98304, if rb (ix2 (0 : Fin 1) l) = BitVec.ofNat 32 q.val then mag (ix2 b l) else (0 : EReal)
  else ∑ l : Fin 98304, if ob (ix2 (0 : Fin 1) l) = BitVec.ofNat 32 (q.val - 16) then mag (ix2 b l) else (0 : EReal)

/-- The bins at an entry. -/
theorem bins_apply (mag : FVec Ideal S8x98304 .f32) (rb ob : IVec S1x98304 32) (b : Fin 8) (q : Fin 24) :
    bins (F := Ideal) mag rb ob (ix2 b q) = binVal mag rb ob b q := by
  unfold bins
  concat_tiles i h
  all_goals (
    have hq : q.val = _ := h
    have hi : i = ix2 b (0 : Fin 1) := by
      funext a; apply Fin.ext
      match a with
      | ⟨0, _⟩ => assumption
      | ⟨1, _⟩ => have : (i 1).val < 1 := (i 1).isLt; show (i 1).val = 0; omega
    rw [hi, binCol_apply, binVal, hq]; rfl)

/-- The linear layer on the normalised bins. -/
def layer (h : Fin 24 → EReal) (w : Fin 24 → EReal) (bias : EReal) : EReal :=
  (∑ q : Fin 24, Ideal.div (h q) ((if q.val < 16 then ∑ p : Fin 16, h ⟨p.val, by omega⟩ else ∑ p : Fin 8, h ⟨16 + p.val, by omega⟩) +
    Ideal.ofBits .f32 0x358637BD#32) * w q) + bias

/-- The call's result at an entry. -/
theorem hist_apply (x0 : FVec Ideal S8x98304 .f32) (x1 x2 : IVec S1x98304 32) (x3 : FVec Ideal S24x64 .f32) (x4 : FVec Ideal S1x64 .f32)
    (b : Fin 8) (o : Fin 64) :
    (out1_5 (F := Ideal) x0 x1 x2 x3 x4 (ix2 b o) : EReal) =
      layer (fun q => binVal (k1_pay2 x0) x1 x2 b q) (fun q => x3 (ix2 q o)) (x4 (ix2 (0 : Fin 1) o)) := by
  have e1 : k1_pay3 (F := Ideal) x1 = x1 := by funext i; idx_vars i; pointwise [k1_pay3]
  have e2 : k1_pay4 (F := Ideal) x2 = x2 := by funext i; idx_vars i; pointwise [k1_pay4]
  rw [hist_out, e1, e2]
  generalize hB : bins (F := Ideal) (k1_pay2 x0) x1 x2 = B
  have hb : ∀ q, binVal (k1_pay2 x0) x1 x2 b q = B (ix2 b q) := fun q => by rw [← hB, bins_apply]
  simp only [hb]
  refine Eq.trans (b := (∑ q : Fin 24, Ideal.div (B (ix2 b q))
        (Scalar.select (IntOp.cmpi CmpIPredicate.slt (BitVec.ofNat 32 q.val) 16#32)
          ((∑ p : Fin 16, B (ix2 b (⟨p.val, by omega⟩ : Fin 24))) + Ideal.ofBits .f32 0x358637BD#32)
          ((∑ p : Fin 8, B (ix2 b (⟨16 + p.val, by omega⟩ : Fin 24))) + Ideal.ofBits .f32 0x358637BD#32)) * x3 (ix2 q o)) + x4 (ix2 (0 : Fin 1) o)) ?_ ?_
  · have h : ∀ v : EReal, (k1_pay1 (F := Ideal) B (angSum B) k1_pay30 (shapeCast S8x1 (radSum B) shapeCasts_S8x1_S8x1) x3 x4 (ix2 b o) : EReal) = v →
        (k1_pay1 (F := Ideal) B (angSum B) k1_pay30 (shapeCast S8x1 (radSum B) shapeCasts_S8x1_S8x1) x3 x4 (ix2 b o) : EReal) = v := fun _ h => h
    generalize hv : (∑ q : Fin 24, Ideal.div (B (ix2 b q)) _ * x3 (ix2 q o)) + x4 (ix2 (0 : Fin 1) o) = v
    pointwise [k1_pay1, k1_pay30, radSum, angSum]
    exact hv
  · refine congrArg (· + x4 (ix2 (0 : Fin 1) o)) (Finset.sum_congr rfl fun q _ => ?_)
    have hs : ∀ u v : EReal, Scalar.select (IntOp.cmpi CmpIPredicate.slt (BitVec.ofNat 32 q.val) 16#32) u v = if q.val < 16 then u else v := by
      intro u v
      fin_cases q <;> rfl
    rw [hs]
    split_ifs with hq <;> rfl

/-- The logarithmic magnitude at an entry. -/
theorem logmag_apply (x0 : FVec Ideal S8x98304 .f32) (b : Fin 8) (l : Fin 98304) :
    k1_pay2 (F := Ideal) x0 (ix2 b l) = Ideal.log1p (x0 (ix2 b l) * ((1 / 96 : ℝ) : EReal)) := by
  have e : Named.named (F := Ideal) Cert.KernelIdeal.κ "inv_c" (φ := .f32) 0x3C2AAAAB#32 = ((1/96:ℝ):EReal) := IdealRules.named_const.ideal_named_scalar _ _ _ _ rfl
  pointwise [k1_pay2]
  rw [e]

end Spectral.Ideal

end
-- ==== Proof.Reference.Spectrum.lean ====
/- The reference's mean spectrum at an entry: for real images, each channel's magnitude is the two-dimensional transform's,
   the logarithm is taken of the channels' mean. -/
module

public import proofs.«01_k».proof.Proof.Gen.ReferenceIdeal.Run
public import proofs.«01_k».proof.Proof.Consts
public import proofs.«01_k».proof.Proof.Math
public import Idealize.ShloMosaic.Lib.Pointwise

@[expose] public section

set_option maxRecDepth 16384

noncomputable section

namespace Spectral.Reference

open Cert.ReferenceIdeal Cert.ReferenceIdeal.Gen Cert.ReferenceIdeal.Value Idealize.ShloMosaic Idealize.ShloMosaic.TcCoe Idealize.SL.Sem

variable (V : Valuation τ sig (Elt Ideal))

/-- The reference's arrays, as arrays of numbers: the images, the transforms' two parts and the angles. -/
abbrev img : FVec Ideal S8x96x384x384 .f32 := V (Proc.devRef .tc main_arg0)
abbrev rowReArr : FVec Ideal S8x96x384x193 .f32 := res_main_v15 V
abbrev rowImArr : FVec Ideal S8x96x384x193 .f32 := res_main_v18 V
abbrev colReArr : FVec Ideal S8x96x384x193 .f32 := res_main_v36 V
abbrev colImArr : FVec Ideal S8x96x384x193 .f32 := res_main_v41 V
abbrev rowAngArr : FVec Ideal S384x193 .f32 := res_main_v13 V
abbrev colAngArr : FVec Ideal S384x384 .f32 := res_main_v29 V
abbrev logArr : FVec Ideal S8x74112 .f32 := res_main_v79 V

/-- The reference's angle for a product of indices. -/
theorem turn (a b : ℕ) (ha : a < 384) (hb : b < 384) :
    Ideal.div (Ideal.ofBits FTy.f32 1073741824#32 * Ideal.atan2 0 (Ideal.ofBits FTy.f32 3212836864#32) *
      FloatOps.sitofp (F := Ideal) FTy.f32 (IntOp.muli (BitVec.ofNat 32 a) (BitVec.ofNat 32 b)))
      (Ideal.ofBits FTy.f32 1136656384#32) = ((-Math.ang (a * b) : ℝ) : EReal) := by
  have hab : a * b < 2 ^ 31 := lt_of_lt_of_le (Nat.mul_lt_mul'' ha hb) (by norm_num)
  rw [mul_word, float_word _ hab, whole_turn, lit_384, ← EReal.coe_mul, div_real _ _ (by norm_num)]
  congr 1; unfold Math.ang; push_cast; ring

/-- The row angles. -/
theorem row_angle (l : Fin 384) (k : Fin 193) : rowAngArr V (ix2 l k) = ((-Math.ang (l * k) : ℝ) : EReal) := by
  have h := turn l k l.isLt (by omega)
  pointwise [res_main_v13, res_main_v1]
  exact h

/-- The column angles. -/
theorem col_angle (p n : Fin 384) : colAngArr V (ix2 p n) = ((-Math.ang (p * n) : ℝ) : EReal) := by
  have h := turn p n p.isLt n.isLt
  pointwise [res_main_v29, res_main_v1, res_main_v19]
  exact h

/-- The images as real numbers. -/
def RealImages (X : Fin 8 → Fin 96 → Fin 384 → Fin 384 → ℝ) : Prop :=
  ∀ b ch n l, img V (ix4 b ch n l) = ((X b ch n l : ℝ) : EReal)

variable {V} {X : Fin 8 → Fin 96 → Fin 384 → Fin 384 → ℝ} (hX : RealImages V X)
include hX

/-- The row transform's real part. -/
theorem row_re (b : Fin 8) (ch : Fin 96) (n : Fin 384) (k : Fin 193) :
    rowReArr V (ix4 b ch n k) = ((Math.rowRe (X b ch n) k : ℝ) : EReal) := by
  refine Eq.trans (b := ∑ l : Fin 384, img V (ix4 b ch n l) * Ideal.cos (rowAngArr V (ix2 l k))) ?_ ?_
  · pointwise [res_main_v15]
  · unfold Math.rowRe
    rw [← coe_sum]
    refine Finset.sum_congr rfl fun l _ => ?_
    rw [hX, row_angle, Ideal.cos_coe, Real.cos_neg, EReal.coe_mul]

/-- The row transform's imaginary part. -/
theorem row_im (b : Fin 8) (ch : Fin 96) (n : Fin 384) (k : Fin 193) :
    rowImArr V (ix4 b ch n k) = ((Math.rowIm (X b ch n) k : ℝ) : EReal) := by
  refine Eq.trans (b := -∑ l : Fin 384, img V (ix4 b ch n l) * Ideal.sin (rowAngArr V (ix2 l k))) ?_ ?_
  · pointwise [res_main_v18]
  · have e : ∀ l : Fin 384, img V (ix4 b ch n l) * Ideal.sin (rowAngArr V (ix2 l k)) =
        ((X b ch n l * -Real.sin (Math.ang (l * k)) : ℝ) : EReal) := fun l => by
      rw [hX, row_angle, Ideal.sin_coe, Real.sin_neg, EReal.coe_mul]
    rw [Finset.sum_congr rfl fun l _ => e l, coe_sum, ← EReal.coe_neg]
    congr 1
    unfold Math.rowIm
    rw [← Finset.sum_neg_distrib]
    exact Finset.sum_congr rfl fun l _ => by ring

/-- The column transform's real part. -/
theorem col_re (b : Fin 8) (ch : Fin 96) (p : Fin 384) (k : Fin 193) :
    colReArr V (ix4 b ch p k) =
      ((Math.colRe (fun n => Math.rowRe (X b ch n) k) (fun n => Math.rowIm (X b ch n) k) p : ℝ) : EReal) := by
  refine Eq.trans (b := (∑ n : Fin 384, rowReArr V (ix4 b ch n k) * Ideal.cos (colAngArr V (ix2 p n))) +
    ∑ n : Fin 384, rowImArr V (ix4 b ch n k) * Ideal.sin (colAngArr V (ix2 p n))) ?_ ?_
  · pointwise [res_main_v36, res_main_v30, res_main_v31]
  · simp only [row_re hX, row_im hX, col_angle, Ideal.cos_coe, Ideal.sin_coe, ← EReal.coe_mul, coe_sum, ← EReal.coe_add]
    congr 1
    unfold Math.colRe
    rw [← Finset.sum_add_distrib]
    refine Finset.sum_congr rfl fun n _ => ?_
    rw [Real.cos_neg, Real.sin_neg, Nat.mul_comm p.val]
    ring

/-- The column transform's imaginary part. -/
theorem col_im (b : Fin 8) (ch : Fin 96) (p : Fin 384) (k : Fin 193) :
    colImArr V (ix4 b ch p k) =
      ((Math.colIm (fun n => Math.rowRe (X b ch n) k) (fun n => Math.rowIm (X b ch n) k) p : ℝ) : EReal) := by
  refine Eq.trans (b := (∑ n : Fin 384, rowImArr V (ix4 b ch n k) * Ideal.cos (colAngArr V (ix2 p n))) -
    ∑ n : Fin 384, rowReArr V (ix4 b ch n k) * Ideal.sin (colAngArr V (ix2 p n))) ?_ ?_
  · pointwise [res_main_v41, res_main_v30, res_main_v31]
  · simp only [row_re hX, row_im hX, col_angle, Ideal.cos_coe, Ideal.sin_coe, ← EReal.coe_mul, coe_sum, ← EReal.coe_sub]
    congr 1
    unfold Math.colIm
    rw [← Finset.sum_sub_distrib]
    refine Finset.sum_congr rfl fun n _ => ?_
    rw [Real.cos_neg, Real.sin_neg, Nat.mul_comm p.val]
    ring

/-- The logarithmic mean magnitude at an entry. -/
theorem logmag (b : Fin 8) (j : Fin 74112) :
    logArr V (ix2 b j) =
      Ideal.log1p ((∑ ch : Fin 96, ((Math.mag (X b ch) (j.val / 193) (j.val % 193) : ℝ) : EReal)) * ((1 / 96 : ℝ) : EReal)) := by
  have hp : j.val / 193 < 384 := by omega
  have hk : j.val % 193 < 193 := by omega
  refine Eq.trans (b := Ideal.log1p (Ideal.div (∑ ch : Fin 96, Ideal.div (Ideal.sqrt
      (colReArr V (ix4 b ch ⟨j.val / 193, hp⟩ ⟨j.val % 193, hk⟩) * colReArr V (ix4 b ch ⟨j.val / 193, hp⟩ ⟨j.val % 193, hk⟩) +
       colImArr V (ix4 b ch ⟨j.val / 193, hp⟩ ⟨j.val % 193, hk⟩) * colImArr V (ix4 b ch ⟨j.val / 193, hp⟩ ⟨j.val % 193, hk⟩)))
      (Ideal.sqrt (Ideal.ofBits .f32 0x48100000#32))) (Ideal.ofBits .f32 0x42C00000#32))) ?_ ?_
  · pointwise [res_main_v79]
  · rw [lit_96, Ideal.div_coe (by norm_num)]
    congr 2
    refine Finset.sum_congr rfl fun ch _ => ?_
    rw [col_re hX, col_im hX, lit_147456, sqrt_real _ (by norm_num), ← EReal.coe_mul, ← EReal.coe_mul, ← EReal.coe_add,
      sqrt_real _ (add_nonneg (mul_self_nonneg _) (mul_self_nonneg _)), show √(147456 : ℝ) = 384 by
        rw [show (147456 : ℝ) = 384 ^ 2 by norm_num]; exact Real.sqrt_sq (by norm_num), div_real _ _ (by norm_num)]
    congr 1
    unfold Math.mag
    rw [pow_two, pow_two]

end Spectral.Reference

end
-- ==== Proof.Reference.Hist.lean ====
/- The reference's result at an entry: its two histograms as sums over the entries with a bin's number, each divided by its sum,
   through the linear layer. -/
module

public import proofs.«01_k».proof.Proof.Reference.Spectrum
public import proofs.«01_k».proof.Proof.Ideal.Ids
public import Idealize.ShloMosaic.Lib.Routing.OpsPair
public import Idealize.ShloMosaic.Lib.ValueIdxCore
public import proofs.«01_k».proof.Proof.Ideal.HistVal

@[expose] public section

set_option maxRecDepth 16384

noncomputable section

namespace Spectral.Reference

open Cert.ReferenceIdeal Cert.ReferenceIdeal.Gen Cert.ReferenceIdeal.Value Idealize.ShloMosaic Idealize.ShloMosaic.TcCoe Idealize.SL.Sem

/-- A scatter of columns: column l of the updates is added to the column that word l names. -/
abbrev columnScatter (N : ℕ) (wf : ScatterDims.WF (⟨2, ![8, N]⟩ : Shape) (⟨2, ![74112, 1]⟩ : Shape) (⟨2, ![8, 74112]⟩ : Shape) [0] [1] [1] 1) :
    ScatterDims (⟨2, ![8, N]⟩ : Shape) (⟨2, ![74112, 1]⟩ : Shape) (⟨2, ![8, 74112]⟩ : Shape) where
  updateWindowDims := [0]
  insertedWindowDims := [1]
  scatterDimsToOperandDims := [1]
  indexVectorDim := 1
  wf := wf

/-- Where an update lands: in its own row, in the column that its word names. -/
theorem lands {N : ℕ} (wf) (w : IVec (⟨2, ![74112, 1]⟩ : Shape) 32) (b' b : Fin 8) (l : Fin 74112) (s : Fin N) :
    (columnScatter N wf).resultIdx? (ix2 b' l) w = some (ix2 b s) ↔ b' = b ∧ (w (ix2 l (0 : Fin 1))).toInt = s.val := by
  rw [Routing.resultIdx?_eq_some]
  have h0 : (columnScatter N wf).start (ix2 b' l) w 0 = 0 := dif_neg (by simp)
  have h1 : (columnScatter N wf).window (ix2 b' l) 0 = b'.val := rfl
  have h2 : (columnScatter N wf).window (ix2 b' l) 1 = 0 := rfl
  have h3 : (columnScatter N wf).start (ix2 b' l) w 1 = (w (ix2 l (0 : Fin 1))).toInt := by
    unfold ScatterDims.start
    rw [dif_pos (by simp)]
    refine congrArg (fun i => (w i).toInt) (funext fun a => ?_)
    match a with
    | ⟨0, _⟩ => rfl
    | ⟨1, _⟩ => rfl
  constructor
  · intro h
    have e := h 0
    have f := h 1
    rw [h0, h1] at e
    rw [h2, h3] at f
    have e' : (0 : ℤ) + (b'.val : ℤ) = (b.val : ℤ) := e
    have f' : (w (ix2 l (0 : Fin 1))).toInt + ((0 : ℕ) : ℤ) = (s.val : ℤ) := f
    exact ⟨Fin.ext (by omega), by omega⟩
  · rintro ⟨e, f⟩ a
    subst e
    match a with
    | ⟨0, _⟩ =>
      refine (congrArg₂ (fun (x : ℤ) (y : ℕ) => x + (y : ℤ)) h0 h1).trans ?_
      show (0 : ℤ) + (b'.val : ℤ) = (b'.val : ℤ)
      omega
    | ⟨1, _⟩ =>
      refine (congrArg₂ (fun (x : ℤ) (y : ℕ) => x + (y : ℤ)) h3 h2).trans ?_
      show (w (ix2 l (0 : Fin 1))).toInt + ((0 : ℕ) : ℤ) = (s.val : ℤ)
      omega

/-- A word read signed is a small number exactly when it is that number's word. -/
theorem toInt_iff (x : BitVec 32) (s : ℕ) (hs : s < 2 ^ 31) : x.toInt = (s : ℤ) ↔ x = BitVec.ofNat 32 s := by
  constructor
  · intro h; exact BitVec.eq_of_toInt_eq (h.trans (toInt_word s hs).symm)
  · intro h; rw [h, toInt_word s hs]

/-- A scatter of columns into zeros at an entry. -/
theorem scatter_apply {N : ℕ} (hN : N < 2 ^ 31) (wf) (x : FVec Ideal (⟨2, ![8, N]⟩ : Shape) .f32) (w : IVec (⟨2, ![74112, 1]⟩ : Shape) 32) (u : FVec Ideal (⟨2, ![8, 74112]⟩ : Shape) .f32)
    (b : Fin 8) (s : Fin N) (hx : x (ix2 b s) = (0 : EReal)) :
    Host.scatterAdd (F := Ideal) (columnScatter N wf) x w u (ix2 b s) =
      ∑ l : Fin 74112, if w (ix2 l (0 : Fin 1)) = BitVec.ofNat 32 s.val then u (ix2 b l) else (0 : EReal) := by
  show x (ix2 b s) + ∑ j ∈ Finset.univ.filter (fun j => (columnScatter N wf).resultIdx? j w = some (ix2 b s)), u j = _
  rw [hx, zero_add, Finset.sum_filter]
  refine (Idealize.ShloMosaic.ValueIdx.sum_idx2 _).trans ?_
  refine (Finset.sum_eq_single b ?_ ?_).trans ?_
  · intro b' _ hb
    refine Finset.sum_eq_zero fun l _ => if_neg ?_
    intro h; exact hb ((lands wf w b' b l s).mp h).1
  · intro h; exact absurd (Finset.mem_univ _) h
  · refine Finset.sum_congr rfl fun l _ => ?_
    refine if_congr ?_ rfl rfl
    refine (lands wf w b b l s).trans ?_
    rw [toInt_iff _ _ (by omega)]
    exact ⟨fun h => h.2, fun h => ⟨rfl, h⟩⟩

variable (V : Valuation τ sig (Elt Ideal))

/-- A bin of the reference's histograms: radial below sixteen, angular from there on. -/
def refBin (b : Fin 8) (q : Fin 24) : EReal :=
  if q.val < 16 then ∑ j : Fin 74112, if Ideal.radIds (ix2 ⟨j.val / 193, by omega⟩ ⟨j.val % 193, by omega⟩) = BitVec.ofNat 32 q.val then logArr V (ix2 b j) else (0 : EReal)
  else ∑ j : Fin 74112, if Ideal.angIds (ix2 ⟨j.val / 193, by omega⟩ ⟨j.val % 193, by omega⟩) = BitVec.ofNat 32 (q.val - 16) then logArr V (ix2 b j) else (0 : EReal)

abbrev radHist : FVec Ideal S8x16 .f32 := res_main_v83 V
abbrev angHist : FVec Ideal S8x8 .f32 := res_main_v87 V

/-- The radial histogram at an entry. -/
theorem rad_hist (b : Fin 8) (s : Fin 16) : radHist V (ix2 b s) = refBin V b ⟨s.val, by omega⟩ := by
  have e : radHist V = Host.scatterAdd (F := Ideal) (columnScatter 16 scatter_S8x16_S74112x1_S8x74112_0_1_1_1_wf)
      (broadcastInDim S8x16 ![1] bcast_S16_S8x16_1 (broadcastInDim S16 ![] bcast_S_S16 (constant S_ .f32 0x00000000#32)))
      (broadcastInDim S74112x1 ![0] bcast_S74112_S74112x1_0 (shapeCast S74112 Ideal.radIds shapeCasts_S384x193_S74112)) (logArr V) := rfl
  rw [e, scatter_apply (by norm_num) _ _ _ _ _ _ (by pointwise), refBin, if_pos s.isLt]
  refine Finset.sum_congr rfl fun j _ => if_congr (Eq.congr_left ?_) rfl rfl
  pointwise

/-- The angular histogram at an entry. -/
theorem ang_hist (b : Fin 8) (s : Fin 8) : angHist V (ix2 b s) = refBin V b ⟨16 + s.val, by omega⟩ := by
  have e : angHist V = Host.scatterAdd (F := Ideal) (columnScatter 8 scatter_S8x8_S74112x1_S8x74112_0_1_1_1_wf)
      (broadcastInDim S8x8 ![1] bcast_S8_S8x8_1 (broadcastInDim S8 ![] bcast_S_S8 (constant S_ .f32 0x00000000#32)))
      (broadcastInDim S74112x1 ![0] bcast_S74112_S74112x1_0 (shapeCast S74112 Ideal.angIds shapeCasts_S384x193_S74112)) (logArr V) := rfl
  rw [e, scatter_apply (by norm_num) _ _ _ _ _ _ (by pointwise), refBin, if_neg (by simp)]
  refine Finset.sum_congr rfl fun j _ => if_congr ?_ rfl rfl
  rw [show 16 + s.val - 16 = s.val by omega]
  refine Eq.congr_left ?_
  pointwise

/-- The layer's weights and bias. -/
abbrev weights : FVec Ideal S64x24 .f32 := V (Proc.devRef .tc main_arg1)
abbrev bias : FVec Ideal S64 .f32 := V (Proc.devRef .tc main_arg2)

/-- The layer on the two normalised histograms, as the reference computes it. -/
def layerOf (A : FVec Ideal S8x16 .f32) (B : FVec Ideal S8x8 .f32) (W : FVec Ideal S64x24 .f32) (u : FVec Ideal S64 .f32) : FVec Ideal S8x64 .f32 :=
  addf (Host.dotGeneral dot_S8x24_S24x64_S8x64_1_0_0_1_n_n none (concatenate S8x24 1 [⟨S8x16, (Host.divf A (broadcastInDim S8x16 ![0, 1] bcast_S8x1_S8x16_0_1 (addf (broadcastInDim S8x1 ![0] bcast_S8_S8x1_0 (Host.reduceAdd A (constant S_ .f32 0x00000000#32) reducesTo_S8x16_S8_d1 h_S_)) (broadcastInDim S8x1 ![] bcast_S_S8x1 (constant S_ .f32 0x358637BD#32)))))⟩, ⟨S8x8, (Host.divf B (broadcastInDim S8x8 ![0, 1] bcast_S8x1_S8x8_0_1 (addf (broadcastInDim S8x1 ![0] bcast_S8_S8x1_0 (Host.reduceAdd B (constant S_ .f32 0x00000000#32) reducesTo_S8x8_S8_d1 h_S_)) (broadcastInDim S8x1 ![] bcast_S_S8x1 (constant S_ .f32 0x358637BD#32)))))⟩] concatenates_S8x16_S8x8_S8x24_d1)
      (transpose S24x64 [1, 0] W transposes_S64x24_S24x64_1_0))
    (broadcastInDim S8x64 ![0, 1] bcast_S1x64_S8x64_0_1 (broadcastInDim S1x64 ![1] bcast_S64_S1x64_1 u))

/-- The layer on two arrays at an entry. -/
theorem layerOf_apply (A : FVec Ideal S8x16 .f32) (B : FVec Ideal S8x8 .f32) (W : FVec Ideal S64x24 .f32) (u : FVec Ideal S64 .f32) (b : Fin 8) (o : Fin 64) :
    layerOf A B W u (ix2 b o) =
      ((∑ s : Fin 16, Idealize.ShloMosaic.Ideal.div (A (ix2 b s)) ((∑ p : Fin 16, A (ix2 b p)) + Idealize.ShloMosaic.Ideal.ofBits .f32 0x358637BD#32) * W (ix2 o ⟨s.val, by omega⟩)) +
    (∑ s : Fin 8, Idealize.ShloMosaic.Ideal.div (B (ix2 b s)) ((∑ p : Fin 8, B (ix2 b p)) + Idealize.ShloMosaic.Ideal.ofBits .f32 0x358637BD#32) * W (ix2 o ⟨16 + s.val, by omega⟩))) + u (ix1 o) := by
  pointwise [layerOf]

/-- The reference's result. -/
def result : FVec Ideal S8x64 .f32 := layerOf (radHist V) (angHist V) (weights V) (bias V)

/-- A sum over the twenty-four bins is the radial bins' and the angular ones'. -/
theorem sum_bins (f : Fin 24 → EReal) : ∑ q, f q = (∑ s : Fin 16, f ⟨s.val, by omega⟩) + ∑ s : Fin 8, f ⟨16 + s.val, by omega⟩ :=
  Fin.sum_univ_add (a := 16) (b := 8) f

/-- The reference's result at an entry. -/
theorem result_apply (b : Fin 8) (o : Fin 64) :
    result V (ix2 b o) = Ideal.layer (refBin V b) (fun q => weights V (ix2 o q)) (bias V (ix1 o)) := by
  have hr : ∀ s, refBin V b ⟨s.val, by omega⟩ = radHist V (ix2 b s) := fun s => (rad_hist V b s).symm
  have ha : ∀ s, refBin V b ⟨16 + s.val, by omega⟩ = angHist V (ix2 b s) := fun s => (ang_hist V b s).symm
  unfold Ideal.layer
  refine Eq.trans (b := ((∑ s : Fin 16, Idealize.ShloMosaic.Ideal.div (radHist V (ix2 b s)) ((∑ p : Fin 16, radHist V (ix2 b p)) + Idealize.ShloMosaic.Ideal.ofBits .f32 0x358637BD#32) * weights V (ix2 o ⟨s.val, by omega⟩)) +
    (∑ s : Fin 8, Idealize.ShloMosaic.Ideal.div (angHist V (ix2 b s)) ((∑ p : Fin 8, angHist V (ix2 b p)) + Idealize.ShloMosaic.Ideal.ofBits .f32 0x358637BD#32) * weights V (ix2 o ⟨16 + s.val, by omega⟩))) + bias V (ix1 o)) ?_ ?_
  · exact layerOf_apply _ _ _ _ b o
  · rw [sum_bins]
    have e1 : ∀ (s : Fin 16) (x y : EReal), (if s.val < 16 then x else y) = x := fun s x y => if_pos s.isLt
    have e2 : ∀ (s : Fin 8) (x y : EReal), (if 16 + s.val < 16 then x else y) = y := fun s x y => if_neg (by omega)
    simp only [hr, ha, e1, e2]

end Spectral.Reference

end
-- ==== Proof.Agree.lean ====
/- The two programs' results agree for real images: the histogram call's bins over the padded, reordered grid are the
   reference's bins, and both pass the same linear layer. -/
module

public import proofs.«01_k».proof.Proof.Ideal.Spectrum
public import proofs.«01_k».proof.Proof.Ideal.HistVal
public import proofs.«01_k».proof.Proof.Reference.Hist

@[expose] public section

set_option maxRecDepth 16384

noncomputable section

namespace Spectral

open Idealize.ShloMosaic Idealize.ShloMosaic.TcCoe Idealize.SL.Sem

/-- The first call's row order meets every row once. -/
theorem perm_bijective : Function.Bijective Ideal.perm := by
  rw [Fintype.bijective_iff_injective_and_card]
  refine ⟨fun a b h => ?_, rfl⟩
  have h' := congrArg Fin.val h
  unfold Ideal.perm at h'
  apply Fin.ext
  split_ifs at h' <;> simp at h' <;> omega

/-- A sum over a grid laid out row by row. -/
theorem sum_rows (R K N : ℕ) (hN : R * K = N) (hK : 0 < K) (f : Fin N → EReal) :
    ∑ l, f l = ∑ r : Fin R, ∑ k : Fin K, f ⟨k.val + K * r.val, by
      have h1 : K * r.val + K ≤ K * R := by rw [← Nat.mul_succ]; exact Nat.mul_le_mul_left K r.isLt
      have h2 := k.isLt
      rw [Nat.mul_comm K R] at h1; omega⟩ := by
  subst hN
  rw [← (finProdFinEquiv (m := R) (n := K)).sum_comp, Fintype.sum_prod_type]
  rfl

/-- Over a grid padded with −1 and reordered, the entries with a bin's number are those of the grid itself. -/
theorem bins_reindex (g : IVec Cert.KernelIdeal.S384x193 32) (w : BitVec 32) (hw : (4294967295#32) ≠ w) (F : Fin 98304 → EReal)
    (G : Fin 74112 → EReal) (H : Fin 384 → ℕ → EReal)
    (hF : ∀ l : Fin 98304, l.val % 256 < 193 → F l = H (Ideal.perm ⟨l.val / 256, by omega⟩) (l.val % 256))
    (hG : ∀ j : Fin 74112, G j = H ⟨j.val / 193, by omega⟩ (j.val % 193)) :
    (∑ l : Fin 98304, if Ideal.padded g ⟨l.val / 256, by omega⟩ ⟨l.val % 256, by omega⟩ = w then F l else (0 : EReal)) =
      ∑ j : Fin 74112, if g (ix2 ⟨j.val / 193, by omega⟩ ⟨j.val % 193, by omega⟩) = w then G j else (0 : EReal) := by
  rw [sum_rows 384 256 98304 (by norm_num) (by norm_num), sum_rows 384 193 74112 (by norm_num) (by norm_num)]
  refine Eq.trans ?_ (perm_bijective.sum_comp _)
  refine Finset.sum_congr rfl fun r _ => ?_
  refine (Fin.sum_univ_add (a := 193) (b := 63) _).trans ?_
  have hpad : ∀ k : Fin 63, (if Ideal.padded g ⟨((Fin.natAdd 193 k).val + 256 * r.val) / 256, by have := r.isLt; have := k.isLt; simp only [Fin.val_natAdd]; omega⟩
      ⟨((Fin.natAdd 193 k).val + 256 * r.val) % 256, by omega⟩ = w then F ⟨(Fin.natAdd 193 k).val + 256 * r.val, by have := r.isLt; have := k.isLt; simp only [Fin.val_natAdd]; omega⟩ else (0 : EReal)) = 0 := by
    intro k
    refine if_neg ?_
    unfold Ideal.padded
    rw [dif_neg (by have := k.isLt; simp only [Fin.val_natAdd]; omega)]
    exact hw
  refine (congrArg₂ (· + ·) rfl (Finset.sum_eq_zero fun k _ => hpad k)).trans ((add_zero _).trans ?_)
  refine Finset.sum_congr rfl fun k _ => ?_
  have hk := k.isLt
  have hr := r.isLt
  have e1 : ((Fin.castAdd 63 k).val + 256 * r.val) / 256 = r.val := by simp only [Fin.val_castAdd]; omega
  have e2 : ((Fin.castAdd 63 k).val + 256 * r.val) % 256 = k.val := by simp only [Fin.val_castAdd]; omega
  have hp := (Ideal.perm r).isLt
  have e3 : (k.val + 193 * (Ideal.perm r).val) / 193 = (Ideal.perm r).val := by omega
  have e4 : (k.val + 193 * (Ideal.perm r).val) % 193 = k.val := by omega
  rw [hF _ (by simp only [e2]; omega), hG]
  simp only [e1, e2, e3, e4]
  unfold Ideal.padded
  rw [dif_pos hk]

/-- A small number's word is not −1. -/
theorem word_ne (n : ℕ) (h : n < 24) : (4294967295#32) ≠ BitVec.ofNat 32 n := by
  intro e
  have := congrArg BitVec.toNat e
  rw [BitVec.toNat_ofNat, BitVec.toNat_ofNat, Nat.mod_eq_of_lt (a := n) (by omega)] at this
  omega

section

open Cert.KernelIdeal

variable (m : (ℓ : Loc nD τ sig) → Buf (Elt Idealize.ShloMosaic.Ideal) ℓ) (c : Dev nD)
  (V : Valuation Cert.ReferenceIdeal.τ Cert.ReferenceIdeal.sig (Elt Idealize.ShloMosaic.Ideal))
  (X : Fin 8 → Fin 96 → Fin 384 → Fin 384 → ℝ)
  (hX : ∀ b ch n l, (m ((c : Thread nD τ).loc main_arg0) (ix4 b ch n l : S8x96x384x384.Idx) : EReal) = ((X b ch n l : ℝ) : EReal))
  (hV : Reference.RealImages V X)
include hX hV

/-- A bin of the histogram call is the reference's. -/
theorem bin_agree (b : Fin 8) (q : Fin 24) :
    Ideal.binVal (Gen.k1_pay2 (Ideal.entry1 (F := Idealize.ShloMosaic.Ideal) m c main_v129)) (Ideal.entry1 (F := Idealize.ShloMosaic.Ideal) m c main_v127)
      (Ideal.entry1 (F := Idealize.ShloMosaic.Ideal) m c main_v128) b q = Reference.refBin V b q := by
  have hF : ∀ l : Fin 98304, l.val % 256 < 193 → (Gen.k1_pay2 (F := Idealize.ShloMosaic.Ideal) (Ideal.entry1 (F := Idealize.ShloMosaic.Ideal) m c main_v129) (ix2 b l) : EReal) =
      Idealize.ShloMosaic.Ideal.log1p ((∑ ch : Fin 96, ((Math.mag (X b ch) (Ideal.perm ⟨l.val / 256, by omega⟩).val (l.val % 256) : ℝ) : EReal)) * ((1 / 96 : ℝ) : EReal)) := by
    intro l hl
    refine (Ideal.logmag_apply _ b l).trans ?_
    exact congrArg (fun z : EReal => Idealize.ShloMosaic.Ideal.log1p (z * ((1 / 96 : ℝ) : EReal))) (Ideal.spectrum_real m c X hX b l hl)
  have hG := fun j => Reference.logmag hV b j
  unfold Ideal.binVal Reference.refBin
  split_ifs with hq
  · refine Eq.trans ?_ (bins_reindex Ideal.radIds _ (word_ne q.val (by omega)) _ _
      (fun p k => Idealize.ShloMosaic.Ideal.log1p ((∑ ch : Fin 96, ((Math.mag (X b ch) p.val k : ℝ) : EReal)) * ((1 / 96 : ℝ) : EReal))) hF hG)
    exact Finset.sum_congr rfl fun l _ => if_congr (Eq.congr_left (Ideal.entry1_rad m c l)) rfl rfl
  · refine Eq.trans ?_ (bins_reindex Ideal.angIds _ (word_ne (q.val - 16) (by omega)) _ _
      (fun p k => Idealize.ShloMosaic.Ideal.log1p ((∑ ch : Fin 96, ((Math.mag (X b ch) p.val k : ℝ) : EReal)) * ((1 / 96 : ℝ) : EReal))) hF hG)
    exact Finset.sum_congr rfl fun l _ => if_congr (Eq.congr_left (Ideal.entry1_ang m c l)) rfl rfl

/-- The kernel's result is the reference's, the layer's weights and bias being the same. -/
theorem result_agree (hW : ∀ (o : Fin 64) (q : Fin 24), (m ((c : Thread nD τ).loc main_arg1) (ix2 o q : S64x24.Idx) : EReal) = Reference.weights V (ix2 o q))
    (hB : ∀ o : Fin 64, (m ((c : Thread nD τ).loc main_arg2) (ix1 o : S64.Idx) : EReal) = Reference.bias V (ix1 o)) :
    Reference.result V = Ideal.histOut m c := by
  funext i
  idx_vars i
  refine (Reference.result_apply V i0 i1).trans ?_
  refine Eq.trans ?_ (congrFun (Ideal.hist_array (Ideal.entry1 (F := Idealize.ShloMosaic.Ideal) m) c) (ix2 i0 i1)).symm
  refine Eq.trans ?_ (Ideal.hist_apply _ _ _ _ _ i0 i1).symm
  exact congr (congr (congrArg Ideal.layer (funext fun q => (bin_agree m c V X hX hV i0 q).symm))
    (funext fun q => ((Ideal.entry1_weights m c q i1).trans (hW i1 q)).symm)) ((Ideal.entry1_bias m c i1).trans (hB i1)).symm

end

end Spectral

end
-- ==== Proof.Finite.lean ====
/- What the precondition gives over the extended reals: every pixel is a real. -/
module

public import proofs.«01_k».proof.Pre_finite
public import proofs.«01_k».proof.Proof.Gen.Pre_finite
public import Idealize.ShloMosaic.PureOps.Ideal
public import Idealize.ShloMosaic.Lib.ValueIdxCore

@[expose] public section

noncomputable section

namespace Spectral

open Cert.Pre_finite Idealize.ShloMosaic

/-- An extended real whose magnitude is below infinity is a real. -/
theorem real_of_below (x : EReal) (h : Ideal.cmp .olt (max x (-x)) (Ideal.ofBits .f32 0x7F800000#32) = 1#1) : x = ((x.toReal : ℝ) : EReal) := by
  have hi : Ideal.ofBits .f32 0x7F800000#32 = (⊤ : EReal) := by simp [Ideal.ofBits, Ideal.ieee]
  rw [hi] at h
  induction x with
  | bot => simp [Ideal.cmp] at h
  | top => simp [Ideal.cmp] at h
  | coe r => rfl

/-- Where the precondition holds every pixel is a real. -/
theorem pixel_real (x : FVec Ideal S8x96x384x384 .f32) (y : FVec Ideal S64x24 .f32) (z : FVec Ideal S64 .f32)
    (h : fn (F := Ideal) x y z = fun _ => 1#1) (i : S8x96x384x384.Idx) : (x i : EReal) = (((x i : EReal).toReal : ℝ) : EReal) :=
  real_of_below _ (congrFun h i)

end Spectral

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Machine.Run
public import proofs.«01_k».proof.Proof.Ideal.Run
public import proofs.«01_k».proof.Proof.Agree
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel on the machine's floats terminates, leaves its arguments and every counter at zero. -/
theorem frame_p : Cert.quiescent_Kernel := fun m ρ _ => Spectral.Machine.frame m ρ

/-- The same over the extended reals. -/
theorem frame_pi : Cert.quiescent_KernelIdeal := fun m ρ _ => Spectral.Ideal.frame m ρ

/-- The same under the precondition of the equality. -/
theorem frame_pi_pre : Cert.quiescent_KernelIdeal_pre_finite := fun m ρ _ => Spectral.Ideal.frame m ρ

/-- The reference over the extended reals terminates, leaves its arguments and every counter at zero. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition of the equality. -/
theorem frame_ri_pre : Cert.quiescent_ReferenceIdeal_pre_finite := fun m ρ _ => frame_ri m ρ trivial

/-- The one rewritten constant: the histogram kernel's `1/96` is the f32 nearest to the real it is named after. -/
theorem preserves : Cert.preserves_Kernel_KernelIdeal :=
  IdealRules.named_const.statement Cert.KernelIdeal.κ "inv_c" .f32 0x3C2AAAAB#32 ((1 / 96 : ℝ) : EReal) rfl

/-- On finite images the kernel and the reference compute the same values over the extended reals: the kernel's result array
    ends at the reference's. -/
theorem algebraic : Cert.algebraic_KernelIdeal_ReferenceIdeal_pre_finite := by
  intro m ρ m' ρ' hpre hagree
  refine ⟨_, Spectral.Ideal.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  refine Eq.trans (b := Spectral.Reference.result (Idealize.ShloMosaic.StableHlo.launchContents m' c)) rfl ?_
  have hX := fun (b : Fin 8) (ch : Fin 96) (n l : Fin 384) => Spectral.pixel_real _ _ _ (hpre c) (ix4 b ch n l)
  exact Spectral.result_agree m c _ _ hX (fun b ch n l => (congrFun h0 (ix4 b ch n l)).trans (hX b ch n l))
    (fun o q => (congrFun h1 (ix2 o q)).symm) (fun o => (congrFun h2 (ix1 o)).symm)

/-- All the claims, with the side conditions of the printed programs. -/
theorem claim : Cert.Claim :=
  ⟨Cert.Kernel.Gen.facts, Cert.KernelIdeal.Gen.facts, Cert.ReferenceIdeal.Gen.facts, Cert.Pre_finite.Gen.facts,
    frame_p, frame_pi, frame_pi_pre, frame_ri, frame_ri_pre, preserves, algebraic⟩

end Cert.Proof

end
